-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x96x224x224 : Shape := ⟨4, ![1, 96, 224, 224]⟩
abbrev S224x672 : Shape := ⟨2, ![224, 672]⟩
abbrev S672x224 : Shape := ⟨2, ![672, 224]⟩
abbrev S1x96x672x672 : Shape := ⟨4, ![1, 96, 672, 672]⟩
abbrev S1x8x224x224 : Shape := ⟨4, ![1, 8, 224, 224]⟩
abbrev S2x8x672x672 : Shape := ⟨4, ![2, 8, 672, 672]⟩
abbrev S2 : Shape := ⟨1, ![2]⟩
abbrev S1 : Shape := ⟨1, ![1]⟩
abbrev S_ : Shape := ⟨0, ![]⟩
abbrev S1x8x672x672 : Shape := ⟨4, ![1, 8, 672, 672]⟩
abbrev S8x672x672 : Shape := ⟨3, ![8, 672, 672]⟩
abbrev S8x224x224 : Shape := ⟨3, ![8, 224, 224]⟩
abbrev S1792x224 : Shape := ⟨2, ![1792, 224]⟩
abbrev S1792x672 : Shape := ⟨2, ![1792, 672]⟩
abbrev S672x672 : Shape := ⟨2, ![672, 672]⟩
abbrev S1x1x672x672 : Shape := ⟨4, ![1, 1, 672, 672]⟩

abbrev nBuf : Space → Nat
  | .hbm => 4
  | .vmem => 5
  | .smem => 0
  | _ => 0

abbrev bufTy : (tb : Table) → Fin (tcTables nBuf tb) → BufTy
  | .hbm, ⟨0, _⟩ => ⟨S1x96x224x224, .f32⟩
  | .hbm, ⟨1, _⟩ => ⟨S224x672, .bf16⟩
  | .hbm, ⟨2, _⟩ => ⟨S672x224, .bf16⟩
  | .hbm, ⟨3, _⟩ => ⟨S1x96x672x672, .f32⟩
  | .local _ .vmem, ⟨0, _⟩ => ⟨S1x8x224x224, .f32⟩
  | .local _ .vmem, ⟨1, _⟩ => ⟨S1x8x224x224, .f32⟩
  | .local _ .vmem, ⟨2, _⟩ => ⟨S672x224, .bf16⟩
  | .local _ .vmem, ⟨3, _⟩ => ⟨S224x672, .bf16⟩
  | .local _ .vmem, ⟨4, _⟩ => ⟨S2x8x672x672, .f32⟩
  | _, _ => ⟨S1x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c2_i32_3 : BitVec 32 := 2#32
  let v10 : BitVec 1 := Scalar.cmpi .sge arg0 c2_i32_3
  let v11 : BitVec 32 := Scalar.extui v10
  let c0_i32_4 : BitVec 32 := 0#32
  let v12 : BitVec 1 := Scalar.cmpi .ne v11 c0_i32_4
  v12

def k0_off1 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off2 (i : grid0.Coords) : Fin 4 → Nat :=
  let c0_i32_60 : BitVec 32 := 0#32
  let arg0 : BitVec 32 := BitVec.ofNat 32 (i 0).val
  let c2_i32_58 : BitVec 32 := 2#32
  let v94 : BitVec 32 := Scalar.subi arg0 c2_i32_58
  let c8_i32_59 : BitVec 32 := 8#32
  let v95 : BitVec 32 := Scalar.muli v94 c8_i32_59
  let c0_i32_61 : BitVec 32 := 0#32
  let c0_i32_62 : BitVec 32 := 0#32
  ![0, v95.toNat, 0, 0]
def k0_off3 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_63 : BitVec 32 := 0#32
  let c0_i32_64 : BitVec 32 := 0#32
  let c0_i32_65 : BitVec 32 := 0#32
  ![v9.toNat, 0, 0, 0]
def k0_off4 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v24 : Index := Scalar.indexCast v9
  let c0_13 : Index := 0#32
  let c0_14 : Index := 0#32
  let c0_15 : Index := 0#32
  ![v24.toNat, 0, 0, 0]
def k0_off5 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : Index := Scalar.indexCast v9
  let c1 : Index := 1#32
  let c0_19 : Index := 0#32
  let c0_20 : Index := 0#32
  ![v32.toNat, 1, 0, 0]
def k0_off6 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v40 : Index := Scalar.indexCast v9
  let c2 : Index := 2#32
  let c0_24 : Index := 0#32
  let c0_25 : Index := 0#32
  ![v40.toNat, 2, 0, 0]
def k0_off7 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v48 : Index := Scalar.indexCast v9
  let c3 : Index := 3#32
  let c0_29 : Index := 0#32
  let c0_30 : Index := 0#32
  ![v48.toNat, 3, 0, 0]
def k0_off8 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v56 : Index := Scalar.indexCast v9
  let c4 : Index := 4#32
  let c0_34 : Index := 0#32
  let c0_35 : Index := 0#32
  ![v56.toNat, 4, 0, 0]
def k0_off9 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v64 : Index := Scalar.indexCast v9
  let c5 : Index := 5#32
  let c0_39 : Index := 0#32
  let c0_40 : Index := 0#32
  ![v64.toNat, 5, 0, 0]
def k0_off10 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v72 : Index := Scalar.indexCast v9
  let c6 : Index := 6#32
  let c0_44 : Index := 0#32
  let c0_45 : Index := 0#32
  ![v72.toNat, 6, 0, 0]
def k0_off11 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v80 : Index := Scalar.indexCast v9
  let c7 : Index := 7#32
  let c0_49 : Index := 0#32
  let c0_50 : Index := 0#32
  ![v80.toNat, 7, 0, 0]
def k0_off12 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off13 (i : grid0.Coords) : Fin 4 → Nat :=
  let c0_i32_51 : BitVec 32 := 0#32
  let arg0 : BitVec 32 := BitVec.ofNat 32 (i 0).val
  let c8_i32 : BitVec 32 := 8#32
  let v84 : BitVec 32 := Scalar.muli arg0 c8_i32
  let c0_i32_52 : BitVec 32 := 0#32
  let c0_i32_53 : BitVec 32 := 0#32
  ![0, v84.toNat, 0, 0]
def k0_off14 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_54 : BitVec 32 := 0#32
  let c0_i32_55 : BitVec 32 := 0#32
  let c0_i32_56 : BitVec 32 := 0#32
  ![v9.toNat, 0, 0, 0]
def k0_cond2 (i : grid0.Coords) : BitVec 1 :=
  let arg0 : BitVec 32 := BitVec.ofNat 32 (i 0).val
  let c11_i32 : BitVec 32 := 11#32
  let v91 : BitVec 1 := Scalar.cmpi .eq arg0 c11_i32
  let v92 : BitVec 32 := Scalar.extui v91
  let c0_i32_57 : BitVec 32 := 0#32
  let v93 : BitVec 1 := Scalar.cmpi .ne v92 c0_i32_57
  v93

def k0_off15 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_67 : BitVec 32 := 1#32
  let v107 : BitVec 32 := Scalar.subi v9 c1_i32_67
  let c2_i32_68 : BitVec 32 := 2#32
  let c0_i32_69 : BitVec 32 := 0#32
  let v108 : BitVec 1 := Scalar.cmpi .eq c2_i32_68 c0_i32_69
  let c1_i32_70 : BitVec 32 := 1#32
  let v109 : BitVec 32 := Scalar.select v108 c1_i32_70 c2_i32_68
  let v110 : BitVec 32 := Scalar.remsi v107 v109
  let c0_i32_72 : BitVec 32 := 0#32
  let v112 : BitVec 1 := Scalar.cmpi .slt v110 c0_i32_72
  let c0_i32_73 : BitVec 32 := 0#32
  let v113 : BitVec 1 := Scalar.cmpi .slt v109 c0_i32_73
  let v114 : BitVec 1 := Scalar.xori v112 v113
  let c0_i32_71 : BitVec 32 := 0#32
  let v111 : BitVec 1 := Scalar.cmpi .ne v110 c0_i32_71
  let v115 : BitVec 1 := Scalar.andi v114 v111
  let v116 : BitVec 32 := Scalar.addi v110 v109
  let v117 : BitVec 32 := Scalar.select v115 v116 v110
  ![v117.toNat]
def k0_off16 (i : grid0.Coords) : Fin 4 → Nat :=
  let c0_i32_74 : BitVec 32 := 0#32
  let arg0 : BitVec 32 := BitVec.ofNat 32 (i 0).val
  let c1_i32_65 : BitVec 32 := 1#32
  let v105 : BitVec 32 := Scalar.subi arg0 c1_i32_65
  let c8_i32_66 : BitVec 32 := 8#32
  let v106 : BitVec 32 := Scalar.muli v105 c8_i32_66
  let c0_i32_75 : BitVec 32 := 0#32
  let c0_i32_76 : BitVec 32 := 0#32
  ![0, v106.toNat, 0, 0]
def k0_off17 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_58 : BitVec 32 := 1#32
  let v94 : BitVec 32 := Scalar.subi v9 c1_i32_58
  let c2_i32_59 : BitVec 32 := 2#32
  let c0_i32_60 : BitVec 32 := 0#32
  let v95 : BitVec 1 := Scalar.cmpi .eq c2_i32_59 c0_i32_60
  let c1_i32_61 : BitVec 32 := 1#32
  let v96 : BitVec 32 := Scalar.select v95 c1_i32_61 c2_i32_59
  let v97 : BitVec 32 := Scalar.remsi v94 v96
  let c0_i32_63 : BitVec 32 := 0#32
  let v99 : BitVec 1 := Scalar.cmpi .slt v97 c0_i32_63
  let c0_i32_64 : BitVec 32 := 0#32
  let v100 : BitVec 1 := Scalar.cmpi .slt v96 c0_i32_64
  let v101 : BitVec 1 := Scalar.xori v99 v100
  let c0_i32_62 : BitVec 32 := 0#32
  let v98 : BitVec 1 := Scalar.cmpi .ne v97 c0_i32_62
  let v102 : BitVec 1 := Scalar.andi v101 v98
  let v103 : BitVec 32 := Scalar.addi v97 v96
  let v104 : BitVec 32 := Scalar.select v102 v103 v97
  let c0_i32_77 : BitVec 32 := 0#32
  let c0_i32_78 : BitVec 32 := 0#32
  let c0_i32_79 : BitVec 32 := 0#32
  ![v104.toNat, 0, 0, 0]
def k0_off18 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off19 (i : grid0.Coords) : Fin 4 → Nat :=
  let c0_i32_81 : BitVec 32 := 0#32
  let arg0 : BitVec 32 := BitVec.ofNat 32 (i 0).val
  let c8_i32_80 : BitVec 32 := 8#32
  let v124 : BitVec 32 := Scalar.muli arg0 c8_i32_80
  let c0_i32_82 : BitVec 32 := 0#32
  let c0_i32_83 : BitVec 32 := 0#32
  ![0, v124.toNat, 0, 0]
def k0_off20 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_84 : BitVec 32 := 0#32
  let c0_i32_85 : BitVec 32 := 0#32
  let c0_i32_86 : BitVec 32 := 0#32
  ![v9.toNat, 0, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S672x224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S224x672 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S1x96x224x224 : Shape := ⟨4, ![1, 96, 224, 224]⟩
abbrev S_ : Shape := ⟨0, ![]⟩
abbrev S1x96x1x224 : Shape := ⟨4, ![1, 96, 1, 224]⟩
abbrev S1x96x225x224 : Shape := ⟨4, ![1, 96, 225, 224]⟩
abbrev S1x96x226x224 : Shape := ⟨4, ![1, 96, 226, 224]⟩
abbrev S1x96x226x1 : Shape := ⟨4, ![1, 96, 226, 1]⟩
abbrev S1x96x226x225 : Shape := ⟨4, ![1, 96, 226, 225]⟩
abbrev S1x96x226x226 : Shape := ⟨4, ![1, 96, 226, 226]⟩
abbrev S3 : Shape := ⟨1, ![3]⟩
abbrev S3x3 : Shape := ⟨2, ![3, 3]⟩
abbrev S9 : Shape := ⟨1, ![9]⟩
abbrev S18 : Shape := ⟨1, ![18]⟩
abbrev S1x18x1x1 : Shape := ⟨4, ![1, 18, 1, 1]⟩
abbrev S224 : Shape := ⟨1, ![224]⟩
abbrev S224x224 : Shape := ⟨2, ![224, 224]⟩
abbrev S1x1x224x224 : Shape := ⟨4, ![1, 1, 224, 224]⟩
abbrev S1x1x1x1x1x224x1x224 : Shape := ⟨8, ![1, 1, 1, 1, 1, 224, 1, 224]⟩
abbrev S1x1x9x1x1x224x1x224 : Shape := ⟨8, ![1, 1, 9, 1, 1, 224, 1, 224]⟩
abbrev S1x9x224x224 : Shape := ⟨4, ![1, 9, 224, 224]⟩
abbrev S1x18x224x224 : Shape := ⟨4, ![1, 18, 224, 224]⟩
abbrev S1x224x224x18 : Shape := ⟨4, ![1, 224, 224, 18]⟩
abbrev S1x224x224x9 : Shape := ⟨4, ![1, 224, 224, 9]⟩
abbrev S1x96x51076 : Shape := ⟨3, ![1, 96, 51076]⟩
abbrev S96x51076 : Shape := ⟨2, ![96, 51076]⟩
abbrev S451584 : Shape := ⟨1, ![451584]⟩
abbrev S451584x1 : Shape := ⟨2, ![451584, 1]⟩
abbrev S1 : Shape := ⟨1, ![1]⟩
abbrev S1x1 : Shape := ⟨2, ![1, 1]⟩
abbrev S96x451584 : Shape := ⟨2, ![96, 451584]⟩
abbrev S1x96x224x224x9 : Shape := ⟨5, ![1, 96, 224, 224, 9]⟩
abbrev S1x1x224x224x9 : Shape := ⟨5, ![1, 1, 224, 224, 9]⟩
abbrev S1x96x224x224x3 : Shape := ⟨5, ![1, 96, 224, 224, 3]⟩
abbrev S1x96x224x672 : Shape := ⟨4, ![1, 96, 224, 672]⟩
abbrev S1x96x224x2016 : Shape := ⟨4, ![1, 96, 224, 2016]⟩
abbrev S1x96x672x672 : Shape := ⟨4, ![1, 96, 672, 672]⟩

abbrev nBuf : Space → Nat
  | .hbm => 272
  | .vmem => 0
  | .smem => 0
  | _ => 0

abbrev hbmTy0_0 (i : Nat) : BufTy := match i % 128 with
  | 0 => ⟨S1x96x224x224, .f32⟩
  | 1 => ⟨S_, .i32⟩
  | 2 => ⟨S1x96x1x224, .f32⟩
  | 3 => ⟨S1x96x1x224, .f32⟩
  | 4 => ⟨S1x96x1x224, .f32⟩
  | 5 => ⟨S1x96x225x224, .f32⟩
  | 6 => ⟨S1x96x1x224, .f32⟩
  | 7 => ⟨S1x96x1x224, .f32⟩
  | 8 => ⟨S1x96x1x224, .f32⟩
  | 9 => ⟨S1x96x226x224, .f32⟩
  | 10 => ⟨S1x96x226x1, .f32⟩
  | 11 => ⟨S1x96x226x1, .f32⟩
  | 12 => ⟨S1x96x226x1, .f32⟩
  | 13 => ⟨S1x96x226x225, .f32⟩
  | 14 => ⟨S1x96x226x1, .f32⟩
  | 15 => ⟨S1x96x226x1, .f32⟩
  | 16 => ⟨S1x96x226x1, .f32⟩
  | 17 => ⟨S1x96x226x226, .f32⟩
  | 18 => ⟨S3, .i32⟩
  | 19 => ⟨S_, .i32⟩
  | 20 => ⟨S3, .i32⟩
  | 21 => ⟨S3, .i32⟩
  | 22 => ⟨S3x3, .i32⟩
  | 23 => ⟨S3x3, .i32⟩
  | 24 => ⟨S9, .i32⟩
  | 25 => ⟨S9, .i32⟩
  | 26 => ⟨S18, .i32⟩
  | 27 => ⟨S1x18x1x1, .i32⟩
  | 28 => ⟨S1x18x1x1, .f32⟩
  | 29 => ⟨S224, .i32⟩
  | 30 => ⟨S224, .i32⟩
  | 31 => ⟨S224x224, .i32⟩
  | 32 => ⟨S224x224, .i32⟩
  | 33 => ⟨S1x1x224x224, .i32⟩
  | 34 => ⟨S1x1x1x1x1x224x1x224, .i32⟩
  | 35 => ⟨S1x1x9x1x1x224x1x224, .i32⟩
  | 36 => ⟨S1x9x224x224, .i32⟩
  | 37 => ⟨S1x1x224x224, .i32⟩
  | 38 => ⟨S1x1x1x1x1x224x1x224, .i32⟩
  | 39 => ⟨S1x1x9x1x1x224x1x224, .i32⟩
  | 40 => ⟨S1x9x224x224, .i32⟩
  | 41 => ⟨S1x18x224x224, .i32⟩
  | 42 => ⟨S1x18x224x224, .f32⟩
  | 43 => ⟨S_, .f32⟩
  | 44 => ⟨S1x18x224x224, .f32⟩
  | 45 => ⟨S1x18x224x224, .f32⟩
  | 46 => ⟨S_, .f32⟩
  | 47 => ⟨S1x18x1x1, .f32⟩
  | 48 => ⟨S1x18x1x1, .f32⟩
  | 49 => ⟨S1x18x224x224, .f32⟩
  | 50 => ⟨S1x18x224x224, .f32⟩
  | 51 => ⟨S1x224x224x18, .f32⟩
  | 52 => ⟨S1x224x224x18, .f32⟩
  | 53 => ⟨S1x224x224x18, .i32⟩
  | 54 => ⟨S_, .i32⟩
  | 55 => ⟨S1x224x224x18, .i32⟩
  | 56 => ⟨S1x224x224x18, .i32⟩
  | 57 => ⟨S1x224x224x9, .i32⟩
  | 58 => ⟨S1x224x224x9, .i32⟩
  | 59 => ⟨S1x224x224x18, .i32⟩
  | 60 => ⟨S1x224x224x9, .i32⟩
  | 61 => ⟨S1x224x224x9, .i32⟩
  | 62 => ⟨S1x224x224x18, .i32⟩
  | 63 => ⟨S1x224x224x9, .i32⟩
  | 64 => ⟨S1x224x224x9, .f32⟩
  | 65 => ⟨S1x224x224x9, .f32⟩
  | 66 => ⟨S1x224x224x9, .f32⟩
  | 67 => ⟨S_, .f32⟩
  | 68 => ⟨S1x224x224x9, .f32⟩
  | 69 => ⟨S1x224x224x9, .f32⟩
  | 70 => ⟨S1x224x224x9, .i32⟩
  | 71 => ⟨S1x224x224x9, .f32⟩
  | 72 => ⟨S1x224x224x9, .f32⟩
  | 73 => ⟨S1x224x224x9, .f32⟩
  | 74 => ⟨S_, .f32⟩
  | 75 => ⟨S1x224x224x9, .f32⟩
  | 76 => ⟨S1x224x224x9, .f32⟩
  | 77 => ⟨S1x224x224x9, .f32⟩
  | 78 => ⟨S1x224x224x9, .i32⟩
  | 79 => ⟨S1x224x224x9, .f32⟩
  | 80 => ⟨S1x224x224x9, .f32⟩
  | 81 => ⟨S1x224x224x9, .f32⟩
  | 82 => ⟨S_, .f32⟩
  | 83 => ⟨S1x224x224x9, .f32⟩
  | 84 => ⟨S1x224x224x9, .f32⟩
  | 85 => ⟨S1x224x224x9, .i32⟩
  | 86 => ⟨S1x224x224x9, .f32⟩
  | 87 => ⟨S1x224x224x9, .f32⟩
  | 88 => ⟨S1x224x224x9, .f32⟩
  | 89 => ⟨S_, .f32⟩
  | 90 => ⟨S1x224x224x9, .f32⟩
  | 91 => ⟨S1x224x224x9, .f32⟩
  | 92 => ⟨S1x224x224x9, .f32⟩
  | 93 => ⟨S1x224x224x9, .i32⟩
  | 94 => ⟨S1x224x224x9, .f32⟩
  | 95 => ⟨S1x224x224x9, .f32⟩
  | 96 => ⟨S1x224x224x9, .f32⟩
  | 97 => ⟨S_, .f32⟩
  | 98 => ⟨S1x224x224x9, .f32⟩
  | 99 => ⟨S1x224x224x9, .f32⟩
  | 100 => ⟨S1x224x224x9, .i32⟩
  | 101 => ⟨S1x224x224x9, .f32⟩
  | 102 => ⟨S1x224x224x9, .f32⟩
  | 103 => ⟨S1x224x224x9, .f32⟩
  | 104 => ⟨S_, .f32⟩
  | 105 => ⟨S1x224x224x9, .f32⟩
  | 106 => ⟨S1x224x224x9, .f32⟩
  | 107 => ⟨S1x224x224x9, .f32⟩
  | 108 => ⟨S1x224x224x9, .i32⟩
  | 109 => ⟨S1x224x224x9, .f32⟩
  | 110 => ⟨S1x224x224x9, .f32⟩
  | 111 => ⟨S1x224x224x9, .f32⟩
  | 112 => ⟨S_, .f32⟩
  | 113 => ⟨S1x224x224x9, .f32⟩
  | 114 => ⟨S1x224x224x9, .f32⟩
  | 115 => ⟨S1x224x224x9, .i32⟩
  | 116 => ⟨S1x224x224x9, .f32⟩
  | 117 => ⟨S1x224x224x9, .f32⟩
  | 118 => ⟨S1x224x224x9, .f32⟩
  | 119 => ⟨S_, .f32⟩
  | 120 => ⟨S1x224x224x9, .f32⟩
  | 121 => ⟨S1x224x224x9, .f32⟩
  | 122 => ⟨S1x224x224x9, .f32⟩
  | 123 => ⟨S1x96x51076, .f32⟩
  | 124 => ⟨S96x51076, .f32⟩
  | 125 => ⟨S1x224x224x9, .i32⟩
  | 126 => ⟨S_, .i32⟩
  | 127 => ⟨S1x224x224x9, .i32⟩
  | _ => ⟨S1x96x224x224, .f32⟩

abbrev hbmTy0_1 (i : Nat) : BufTy := match i % 128 with
  | 0 => ⟨S1x224x224x9, .i32⟩
  | 1 => ⟨S1x224x224x9, .i32⟩
  | 2 => ⟨S1x224x224x9, .i32⟩
  | 3 => ⟨S451584, .i32⟩
  | 4 => ⟨S_, .i32⟩
  | 5 => ⟨S451584, .i32⟩
  | 6 => ⟨S451584, .i1⟩
  | 7 => ⟨S_, .i32⟩
  | 8 => ⟨S451584, .i32⟩
  | 9 => ⟨S451584, .i32⟩
  | 10 => ⟨S451584, .i32⟩
  | 11 => ⟨S451584x1, .i32⟩
  | 12 => ⟨S1, .i32⟩
  | 13 => ⟨S_, .i32⟩
  | 14 => ⟨S451584x1, .i32⟩
  | 15 => ⟨S451584x1, .i1⟩
  | 16 => ⟨S1x1, .i32⟩
  | 17 => ⟨S451584x1, .i32⟩
  | 18 => ⟨S451584x1, .i1⟩
  | 19 => ⟨S451584x1, .i1⟩
  | 20 => ⟨S_, .i1⟩
  | 21 => ⟨S451584, .i1⟩
  | 22 => ⟨S96x451584, .f32⟩
  | 23 => ⟨S96x451584, .i1⟩
  | 24 => ⟨S_, .f32⟩
  | 25 => ⟨S96x451584, .f32⟩
  | 26 => ⟨S96x451584, .f32⟩
  | 27 => ⟨S1x96x224x224x9, .f32⟩
  | 28 => ⟨S1x224x224x9, .i32⟩
  | 29 => ⟨S_, .i32⟩
  | 30 => ⟨S1x224x224x9, .i32⟩
  | 31 => ⟨S1x224x224x9, .i32⟩
  | 32 => ⟨S1x224x224x9, .i32⟩
  | 33 => ⟨S1x224x224x9, .i32⟩
  | 34 => ⟨S451584, .i32⟩
  | 35 => ⟨S_, .i32⟩
  | 36 => ⟨S451584, .i32⟩
  | 37 => ⟨S451584, .i1⟩
  | 38 => ⟨S_, .i32⟩
  | 39 => ⟨S451584, .i32⟩
  | 40 => ⟨S451584, .i32⟩
  | 41 => ⟨S451584, .i32⟩
  | 42 => ⟨S451584x1, .i32⟩
  | 43 => ⟨S1, .i32⟩
  | 44 => ⟨S_, .i32⟩
  | 45 => ⟨S451584x1, .i32⟩
  | 46 => ⟨S451584x1, .i1⟩
  | 47 => ⟨S1x1, .i32⟩
  | 48 => ⟨S451584x1, .i32⟩
  | 49 => ⟨S451584x1, .i1⟩
  | 50 => ⟨S451584x1, .i1⟩
  | 51 => ⟨S_, .i1⟩
  | 52 => ⟨S451584, .i1⟩
  | 53 => ⟨S96x451584, .f32⟩
  | 54 => ⟨S96x451584, .i1⟩
  | 55 => ⟨S_, .f32⟩
  | 56 => ⟨S96x451584, .f32⟩
  | 57 => ⟨S96x451584, .f32⟩
  | 58 => ⟨S1x96x224x224x9, .f32⟩
  | 59 => ⟨S1x224x224x9, .i32⟩
  | 60 => ⟨S_, .i32⟩
  | 61 => ⟨S1x224x224x9, .i32⟩
  | 62 => ⟨S1x224x224x9, .i32⟩
  | 63 => ⟨S1x224x224x9, .i32⟩
  | 64 => ⟨S1x224x224x9, .i32⟩
  | 65 => ⟨S451584, .i32⟩
  | 66 => ⟨S_, .i32⟩
  | 67 => ⟨S451584, .i32⟩
  | 68 => ⟨S451584, .i1⟩
  | 69 => ⟨S_, .i32⟩
  | 70 => ⟨S451584, .i32⟩
  | 71 => ⟨S451584, .i32⟩
  | 72 => ⟨S451584, .i32⟩
  | 73 => ⟨S451584x1, .i32⟩
  | 74 => ⟨S1, .i32⟩
  | 75 => ⟨S_, .i32⟩
  | 76 => ⟨S451584x1, .i32⟩
  | 77 => ⟨S451584x1, .i1⟩
  | 78 => ⟨S1x1, .i32⟩
  | 79 => ⟨S451584x1, .i32⟩
  | 80 => ⟨S451584x1, .i1⟩
  | 81 => ⟨S451584x1, .i1⟩
  | 82 => ⟨S_, .i1⟩
  | 83 => ⟨S451584, .i1⟩
  | 84 => ⟨S96x451584, .f32⟩
  | 85 => ⟨S96x451584, .i1⟩
  | 86 => ⟨S_, .f32⟩
  | 87 => ⟨S96x451584, .f32⟩
  | 88 => ⟨S96x451584, .f32⟩
  | 89 => ⟨S1x96x224x224x9, .f32⟩
  | 90 => ⟨S1x224x224x9, .i32⟩
  | 91 => ⟨S_, .i32⟩
  | 92 => ⟨S1x224x224x9, .i32⟩
  | 93 => ⟨S1x224x224x9, .i32⟩
  | 94 => ⟨S1x224x224x9, .i32⟩
  | 95 => ⟨S1x224x224x9, .i32⟩
  | 96 => ⟨S451584, .i32⟩
  | 97 => ⟨S_, .i32⟩
  | 98 => ⟨S451584, .i32⟩
  | 99 => ⟨S451584, .i1⟩
  | 100 => ⟨S_, .i32⟩
  | 101 => ⟨S451584, .i32⟩
  | 102 => ⟨S451584, .i32⟩
  | 103 => ⟨S451584, .i32⟩
  | 104 => ⟨S451584x1, .i32⟩
  | 105 => ⟨S1, .i32⟩
  | 106 => ⟨S_, .i32⟩
  | 107 => ⟨S451584x1, .i32⟩
  | 108 => ⟨S451584x1, .i1⟩
  | 109 => ⟨S1x1, .i32⟩
  | 110 => ⟨S451584x1, .i32⟩
  | 111 => ⟨S451584x1, .i1⟩
  | 112 => ⟨S451584x1, .i1⟩
  | 113 => ⟨S_, .i1⟩
  | 114 => ⟨S451584, .i1⟩
  | 115 => ⟨S96x451584, .f32⟩
  | 116 => ⟨S96x451584, .i1⟩
  | 117 => ⟨S_, .f32⟩
  | 118 => ⟨S96x451584, .f32⟩
  | 119 => ⟨S96x451584, .f32⟩
  | 120 => ⟨S1x96x224x224x9, .f32⟩
  | 121 => ⟨S1x1x224x224x9, .f32⟩
  | 122 => ⟨S1x96x224x224x9, .f32⟩
  | 123 => ⟨S1x96x224x224x9, .f32⟩
  | 124 => ⟨S1x1x224x224x9, .f32⟩
  | 125 => ⟨S1x96x224x224x9, .f32⟩
  | 126 => ⟨S1x96x224x224x9, .f32⟩
  | 127 => ⟨S1x96x224x224x9, .f32⟩
  | _ => ⟨S1x96x224x224, .f32⟩

abbrev hbmTy0_2 (i : Nat) : BufTy := match i % 128 with
  | 0 => ⟨S1x1x224x224x9, .f32⟩
  | 1 => ⟨S1x96x224x224x9, .f32⟩
  | 2 => ⟨S1x96x224x224x9, .f32⟩
  | 3 => ⟨S1x96x224x224x9, .f32⟩
  | 4 => ⟨S1x1x224x224x9, .f32⟩
  | 5 => ⟨S1x96x224x224x9, .f32⟩
  | 6 => ⟨S1x96x224x224x9, .f32⟩
  | 7 => ⟨S1x96x224x224x9, .f32⟩
  | 8 => ⟨S1x96x224x224x3, .f32⟩
  | 9 => ⟨S1x96x224x672, .f32⟩
  | 10 => ⟨S1x96x224x224x3, .f32⟩
  | 11 => ⟨S1x96x224x672, .f32⟩
  | 12 => ⟨S1x96x224x224x3, .f32⟩
  | 13 => ⟨S1x96x224x672, .f32⟩
  | 14 => ⟨S1x96x224x2016, .f32⟩
  | 15 => ⟨S1x96x672x672, .f32⟩
  | _ => ⟨S1x96x224x224, .f32⟩

abbrev hbmTy (i : Nat) : BufTy := match i / 128 with
  | 0 => hbmTy0_0 i
  | 1 => hbmTy0_1 i
  | 2 => hbmTy0_2 i
  | _ => ⟨S1x96x224x224, .f32⟩

abbrev bufTy : (tb : Table) → Fin (tcTables nBuf tb) → BufTy
  | .hbm, ⟨i, _⟩ => hbmTy i
  | _, _ => ⟨S1x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_call0_v9 : Ref sig .tc := ⟨.hbm, 11, rfl⟩
abbrev main_call0_v10 : Ref sig .tc := ⟨.hbm, 12, rfl⟩
abbrev main_call0_v11 : Ref sig .tc := ⟨.hbm, 13, rfl⟩
abbrev main_call0_v12 : Ref sig .tc := ⟨.hbm, 14, rfl⟩
abbrev main_call0_v13 : Ref sig .tc := ⟨.hbm, 15, rfl⟩
abbrev main_call0_v14 : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst : Ref sig .tc := ⟨.hbm, 43, rfl⟩
abbrev main_v25 : Ref sig .tc := ⟨.hbm, 44, rfl⟩
abbrev main_v26 : Ref sig .tc := ⟨.hbm, 45, rfl⟩
abbrev main_cst_1 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_2 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_3 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_4 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_5 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_6 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_7 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_8 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_9 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_10 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_c_11 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_call1_c : Ref sig .tc := ⟨.hbm, 132, rfl⟩
abbrev main_call1_v0 : Ref sig .tc := ⟨.hbm, 133, rfl⟩
abbrev main_call1_v1 : Ref sig .tc := ⟨.hbm, 134, rfl⟩
abbrev main_call1_c_0 : Ref sig .tc := ⟨.hbm, 135, rfl⟩
abbrev main_call1_v2 : Ref sig .tc := ⟨.hbm, 136, rfl⟩
abbrev main_call1_v3 : Ref sig .tc := ⟨.hbm, 137, rfl⟩
abbrev main_call1_v4 : Ref sig .tc := ⟨.hbm, 138, rfl⟩
abbrev main_call1_v5 : Ref sig .tc := ⟨.hbm, 139, rfl⟩
abbrev main_call1_c_1 : Ref sig .tc := ⟨.hbm, 140, rfl⟩
abbrev main_call1_c_2 : Ref sig .tc := ⟨.hbm, 141, rfl⟩
abbrev main_call1_v6 : Ref sig .tc := ⟨.hbm, 142, rfl⟩
abbrev main_call1_v7 : Ref sig .tc := ⟨.hbm, 143, rfl⟩
abbrev main_call1_v8 : Ref sig .tc := ⟨.hbm, 144, rfl⟩
abbrev main_call1_v9 : Ref sig .tc := ⟨.hbm, 145, rfl⟩
abbrev main_call1_v10 : Ref sig .tc := ⟨.hbm, 146, rfl⟩
abbrev main_call1_v11 : Ref sig .tc := ⟨.hbm, 147, rfl⟩
abbrev main_call1_c_3 : Ref sig .tc := ⟨.hbm, 148, rfl⟩
abbrev main_call1_v12 : Ref sig .tc := ⟨.hbm, 149, rfl⟩
abbrev main_call1_v13 : Ref sig .tc := ⟨.hbm, 150, rfl⟩
abbrev main_call1_v14 : Ref sig .tc := ⟨.hbm, 151, rfl⟩
abbrev main_call1_cst : Ref sig .tc := ⟨.hbm, 152, rfl⟩
abbrev main_call1_v15 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_c_12 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_call2_c : Ref sig .tc := ⟨.hbm, 163, rfl⟩
abbrev main_call2_v0 : Ref sig .tc := ⟨.hbm, 164, rfl⟩
abbrev main_call2_v1 : Ref sig .tc := ⟨.hbm, 165, rfl⟩
abbrev main_call2_c_0 : Ref sig .tc := ⟨.hbm, 166, rfl⟩
abbrev main_call2_v2 : Ref sig .tc := ⟨.hbm, 167, rfl⟩
abbrev main_call2_v3 : Ref sig .tc := ⟨.hbm, 168, rfl⟩
abbrev main_call2_v4 : Ref sig .tc := ⟨.hbm, 169, rfl⟩
abbrev main_call2_v5 : Ref sig .tc := ⟨.hbm, 170, rfl⟩
abbrev main_call2_c_1 : Ref sig .tc := ⟨.hbm, 171, rfl⟩
abbrev main_call2_c_2 : Ref sig .tc := ⟨.hbm, 172, rfl⟩
abbrev main_call2_v6 : Ref sig .tc := ⟨.hbm, 173, rfl⟩
abbrev main_call2_v7 : Ref sig .tc := ⟨.hbm, 174, rfl⟩
abbrev main_call2_v8 : Ref sig .tc := ⟨.hbm, 175, rfl⟩
abbrev main_call2_v9 : Ref sig .tc := ⟨.hbm, 176, rfl⟩
abbrev main_call2_v10 : Ref sig .tc := ⟨.hbm, 177, rfl⟩
abbrev main_call2_v11 : Ref sig .tc := ⟨.hbm, 178, rfl⟩
abbrev main_call2_c_3 : Ref sig .tc := ⟨.hbm, 179, rfl⟩
abbrev main_call2_v12 : Ref sig .tc := ⟨.hbm, 180, rfl⟩
abbrev main_call2_v13 : Ref sig .tc := ⟨.hbm, 181, rfl⟩
abbrev main_call2_v14 : Ref sig .tc := ⟨.hbm, 182, rfl⟩
abbrev main_call2_cst : Ref sig .tc := ⟨.hbm, 183, rfl⟩
abbrev main_call2_v15 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_c_13 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_call3_c : Ref sig .tc := ⟨.hbm, 194, rfl⟩
abbrev main_call3_v0 : Ref sig .tc := ⟨.hbm, 195, rfl⟩
abbrev main_call3_v1 : Ref sig .tc := ⟨.hbm, 196, rfl⟩
abbrev main_call3_c_0 : Ref sig .tc := ⟨.hbm, 197, rfl⟩
abbrev main_call3_v2 : Ref sig .tc := ⟨.hbm, 198, rfl⟩
abbrev main_call3_v3 : Ref sig .tc := ⟨.hbm, 199, rfl⟩
abbrev main_call3_v4 : Ref sig .tc := ⟨.hbm, 200, rfl⟩
abbrev main_call3_v5 : Ref sig .tc := ⟨.hbm, 201, rfl⟩
abbrev main_call3_c_1 : Ref sig .tc := ⟨.hbm, 202, rfl⟩
abbrev main_call3_c_2 : Ref sig .tc := ⟨.hbm, 203, rfl⟩
abbrev main_call3_v6 : Ref sig .tc := ⟨.hbm, 204, rfl⟩
abbrev main_call3_v7 : Ref sig .tc := ⟨.hbm, 205, rfl⟩
abbrev main_call3_v8 : Ref sig .tc := ⟨.hbm, 206, rfl⟩
abbrev main_call3_v9 : Ref sig .tc := ⟨.hbm, 207, rfl⟩
abbrev main_call3_v10 : Ref sig .tc := ⟨.hbm, 208, rfl⟩
abbrev main_call3_v11 : Ref sig .tc := ⟨.hbm, 209, rfl⟩
abbrev main_call3_c_3 : Ref sig .tc := ⟨.hbm, 210, rfl⟩
abbrev main_call3_v12 : Ref sig .tc := ⟨.hbm, 211, rfl⟩
abbrev main_call3_v13 : Ref sig .tc := ⟨.hbm, 212, rfl⟩
abbrev main_call3_v14 : Ref sig .tc := ⟨.hbm, 213, rfl⟩
abbrev main_call3_cst : Ref sig .tc := ⟨.hbm, 214, rfl⟩
abbrev main_call3_v15 : Ref sig .tc := ⟨.hbm, 215, rfl⟩
abbrev main_v118 : Ref sig .tc := ⟨.hbm, 216, rfl⟩
abbrev main_v119 : Ref sig .tc := ⟨.hbm, 217, rfl⟩
abbrev main_v120 : Ref sig .tc := ⟨.hbm, 218, rfl⟩
abbrev main_c_14 : Ref sig .tc := ⟨.hbm, 219, rfl⟩
abbrev main_v121 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_v125 : Ref sig .tc := ⟨.hbm, 224, rfl⟩
abbrev main_call4_c : Ref sig .tc := ⟨.hbm, 225, rfl⟩
abbrev main_call4_v0 : Ref sig .tc := ⟨.hbm, 226, rfl⟩
abbrev main_call4_v1 : Ref sig .tc := ⟨.hbm, 227, rfl⟩
abbrev main_call4_c_0 : Ref sig .tc := ⟨.hbm, 228, rfl⟩
abbrev main_call4_v2 : Ref sig .tc := ⟨.hbm, 229, rfl⟩
abbrev main_call4_v3 : Ref sig .tc := ⟨.hbm, 230, rfl⟩
abbrev main_call4_v4 : Ref sig .tc := ⟨.hbm, 231, rfl⟩
abbrev main_call4_v5 : Ref sig .tc := ⟨.hbm, 232, rfl⟩
abbrev main_call4_c_1 : Ref sig .tc := ⟨.hbm, 233, rfl⟩
abbrev main_call4_c_2 : Ref sig .tc := ⟨.hbm, 234, rfl⟩
abbrev main_call4_v6 : Ref sig .tc := ⟨.hbm, 235, rfl⟩
abbrev main_call4_v7 : Ref sig .tc := ⟨.hbm, 236, rfl⟩
abbrev main_call4_v8 : Ref sig .tc := ⟨.hbm, 237, rfl⟩
abbrev main_call4_v9 : Ref sig .tc := ⟨.hbm, 238, rfl⟩
abbrev main_call4_v10 : Ref sig .tc := ⟨.hbm, 239, rfl⟩
abbrev main_call4_v11 : Ref sig .tc := ⟨.hbm, 240, rfl⟩
abbrev main_call4_c_3 : Ref sig .tc := ⟨.hbm, 241, rfl⟩
abbrev main_call4_v12 : Ref sig .tc := ⟨.hbm, 242, rfl⟩
abbrev main_call4_v13 : Ref sig .tc := ⟨.hbm, 243, rfl⟩
abbrev main_call4_v14 : Ref sig .tc := ⟨.hbm, 244, rfl⟩
abbrev main_call4_cst : Ref sig .tc := ⟨.hbm, 245, rfl⟩
abbrev main_call4_v15 : Ref sig .tc := ⟨.hbm, 246, rfl⟩
abbrev main_v126 : Ref sig .tc := ⟨.hbm, 247, rfl⟩
abbrev main_v127 : Ref sig .tc := ⟨.hbm, 248, rfl⟩
abbrev main_v128 : Ref sig .tc := ⟨.hbm, 249, rfl⟩
abbrev main_v129 : Ref sig .tc := ⟨.hbm, 250, rfl⟩
abbrev main_v130 : Ref sig .tc := ⟨.hbm, 251, rfl⟩
abbrev main_v131 : Ref sig .tc := ⟨.hbm, 252, rfl⟩
abbrev main_v132 : Ref sig .tc := ⟨.hbm, 253, rfl⟩
abbrev main_v133 : Ref sig .tc := ⟨.hbm, 254, rfl⟩
abbrev main_v134 : Ref sig .tc := ⟨.hbm, 255, rfl⟩
abbrev main_v135 : Ref sig .tc := ⟨.hbm, 256, rfl⟩
abbrev main_v136 : Ref sig .tc := ⟨.hbm, 257, rfl⟩
abbrev main_v137 : Ref sig .tc := ⟨.hbm, 258, rfl⟩
abbrev main_v138 : Ref sig .tc := ⟨.hbm, 259, rfl⟩
abbrev main_v139 : Ref sig .tc := ⟨.hbm, 260, rfl⟩
abbrev main_v140 : Ref sig .tc := ⟨.hbm, 261, rfl⟩
abbrev main_v141 : Ref sig .tc := ⟨.hbm, 262, rfl⟩
abbrev main_v142 : Ref sig .tc := ⟨.hbm, 263, rfl⟩
abbrev main_v143 : Ref sig .tc := ⟨.hbm, 264, rfl⟩
abbrev main_v144 : Ref sig .tc := ⟨.hbm, 265, rfl⟩
abbrev main_v145 : Ref sig .tc := ⟨.hbm, 266, rfl⟩
abbrev main_v146 : Ref sig .tc := ⟨.hbm, 267, rfl⟩
abbrev main_v147 : Ref sig .tc := ⟨.hbm, 268, rfl⟩
abbrev main_v148 : Ref sig .tc := ⟨.hbm, 269, rfl⟩
abbrev main_v149 : Ref sig .tc := ⟨.hbm, 270, rfl⟩
abbrev main_v150 : Ref sig .tc := ⟨.hbm, 271, rfl⟩

abbrev nD : Nat := 1
abbrev τ : Topo := Topo.v7x

variable {F : FTy → Type} [FloatOps F]
-- ==== Proof.KernelTile.lean ====
/-
  What one grid point leaves in its tile of the write-behind scratch, and what its copy out leaves in its piece of the
  result: the eight planes the body stores, stacked.
-/
module

public import proofs.«01_k».proof.Proof.Gen.KernelIdeal.Frame
public import Idealize.ShloMosaic.Lib.Pointwise
public import Idealize.ShloMosaic.Lib.VecWindow
public import Idealize.ShloMosaic.Lib.WholeRead
public import Idealize.ShloMosaic.Lib.Writes

@[expose] public section

set_option maxRecDepth 16384

noncomputable section

namespace Cert.KernelValue

open Cert.KernelIdeal Cert.KernelIdeal.Gen
open Idealize.ShloMosaic Idealize.ShloMosaic.TcCoe

variable {F : FTy → Type} [FloatOps F]

/-- The eight planes the body stores at a point whose blocks are `x0` (the channels), `x1` and `x2` (the two factors). -/
def planes (x0 : Vec F S1x8x224x224 .f32) (x1 : Vec F S672x224 .bf16) (x2 : Vec F S224x672 .bf16) :
    Fin 8 → FVec F S1x1x672x672 .f32 :=
  ![k0_pay2 x0 x2 x1, k0_pay4 (k0_pay3 x0 x2 x1), k0_pay5 (k0_pay1 x0 x2) x1, k0_pay6 (k0_pay1 x0 x2) x1,
    k0_pay7 (k0_pay1 x0 x2) x1, k0_pay9 (k0_pay8 (k0_pay1 x0 x2) x1), k0_pay10 (k0_pay1 x0 x2) x1,
    k0_pay11 (k0_pay1 x0 x2) x1]

/-- The planes stacked: the contents of the point's tile, and of its piece of the result. -/
def stacked (x0 : Vec F S1x8x224x224 .f32) (x1 : Vec F S672x224 .bf16) (x2 : Vec F S224x672 .bf16) :
    S8x672x672.Idx → Elt F .f32 :=
  fun y => planes x0 x1 x2 (y 0) (ix4 0 0 (y 1) (y 2))

/-- A box of one plane of the scratch. -/
abbrev planeRect (off : Fin 4 → ℕ) (inb : ∀ a, off a + S1x1x672x672.size a ≤ S2x8x672x672.size a) : Rect S2x8x672x672 :=
  Rect.unit (s := S2x8x672x672) off S1x1x672x672.size inb

/-- The scratch read in tile `g` after a plane was stored in that tile: the plane where the place is in it, what was there
    before elsewhere. -/
theorem read_plane (f : scM0_0.view.ty.Contents (Elt F)) (L : List (View.Piece (Elt F) S2x8x672x672 .f32))
    {off : Fin 4 → ℕ} (inb : ∀ a, off a + S1x1x672x672.size a ≤ S2x8x672x672.size a)
    (w : S1x1x672x672.Idx → Elt F .f32) {g : Fin 2} {k : ℕ} (hoff : off = ![g.val, k, 0, 0]) (k' : Fin 8) (I J : Fin 672) :
    scM0_0.view.read (Elt F) (scM0_0.view.writes (Elt F) f (⟨planeRect off inb, w⟩ :: L)) (ix4 g k' I J)
      = if k'.val = k then w (ix4 0 0 I J) else scM0_0.view.read (Elt F) (scM0_0.view.writes (Elt F) f L) (ix4 g k' I J) := by
  subst hoff
  split_ifs with h
  · have hx : ∀ a, ((ix4 g k' I J : S2x8x672x672.Idx) a).val
        = (planeRect ![g.val, k, 0, 0] inb).off a + (planeRect ![g.val, k, 0, 0] inb).stride a * ((ix4 0 0 I J : S1x1x672x672.Idx) a).val := by
      intro a
      match a with
      | ⟨0, _⟩ => show g.val = g.val + 1 * 0; omega
      | ⟨1, _⟩ => show k'.val = k + 1 * 0; omega
      | ⟨2, _⟩ => show I.val = 0 + 1 * I.val; omega
      | ⟨3, _⟩ => show J.val = 0 + 1 * J.val; omega
    exact View.read_writes_cons_hit_of_coords scM0_0.view f (planeRect ![g.val, k, 0, 0] inb) w L (ix4 0 0 I J) (ix4 g k' I J) hx
  · have hm : ((ix4 g k' I J : S2x8x672x672.Idx) 1).val < k ∨ k + 1 ≤ ((ix4 g k' I J : S2x8x672x672.Idx) 1).val := by
      show k'.val < k ∨ k + 1 ≤ k'.val
      omega
    exact View.read_writes_cons_miss_of_axis scM0_0.view f ⟨planeRect ![g.val, k, 0, 0] inb, w⟩ L (ix4 g k' I J) (1 : Fin 4) k 1
      rfl rfl rfl hm

/-- A squeezed slice is read at its place in the buffer it slices. -/
theorem read_tile (g : Fin 2) (f : scM0_0.view.ty.Contents (Elt F)) (k : Fin 8) (I J : Fin 672) :
    View.read (Elt F) (wtile0_0 g 0).view f (ix3 k I J) = scM0_0.view.read (Elt F) f (ix4 g k I J) := by
  have e : View.read (Elt F) (wtile0_0 g 0).view f
      = shapeCast S8x672x672 (fun y => scM0_0.view.read (Elt F) f ((Rect.unit (s := S2x8x672x672) ![g.val, 0, 0, 0] S1x8x672x672.size
          (inb_wtile0_0 g 0)).emb y)) squeezes_S1x8x672x672_S8x672x672.numel_eq := rfl
  rw [e, shapeCast_apply (k := ix4 0 k I J)]
  · refine congrArg _ (funext fun a => Fin.ext ?_)
    match a with
    | ⟨0, _⟩ => show g.val + 1 * 0 = g.val; omega
    | ⟨1, _⟩ => show 0 + 1 * k.val = k.val; omega
    | ⟨2, _⟩ => show 0 + 1 * I.val = I.val; omega
    | ⟨3, _⟩ => show 0 + 1 * J.val = J.val; omega
  · rw [Shape.rowMajor_val_three, Shape.rowMajor_val_four]
    show (((0 : ℕ) * 8 + k.val) * 672 + I.val) * 672 + J.val = (k.val * 672 + I.val) * 672 + J.val
    omega

/-- THE TILE: after the eight stores of point `t` it holds the planes stacked, whatever it held before. -/
theorem tile_stacked (t : Fin cfg0.N) (e : scM0_0.view.ty.Contents (Elt F))
    (x0 : Vec F S1x8x224x224 .f32) (x1 : Vec F S672x224 .bf16) (x2 : Vec F S224x672 .bf16) :
    View.read (Elt F) (wtile0_0 (Ring.sl 2 t.val) 0).view (scM0_0.view.writes (Elt F) e
      [⟨planeRect (k0_off11 (grid0.coords t)) (k0_off11_inb _), k0_pay11 (k0_pay1 x0 x2) x1⟩,
       ⟨planeRect (k0_off10 (grid0.coords t)) (k0_off10_inb _), k0_pay10 (k0_pay1 x0 x2) x1⟩,
       ⟨planeRect (k0_off9 (grid0.coords t)) (k0_off9_inb _), k0_pay9 (k0_pay8 (k0_pay1 x0 x2) x1)⟩,
       ⟨planeRect (k0_off8 (grid0.coords t)) (k0_off8_inb _), k0_pay7 (k0_pay1 x0 x2) x1⟩,
       ⟨planeRect (k0_off7 (grid0.coords t)) (k0_off7_inb _), k0_pay6 (k0_pay1 x0 x2) x1⟩,
       ⟨planeRect (k0_off6 (grid0.coords t)) (k0_off6_inb _), k0_pay5 (k0_pay1 x0 x2) x1⟩,
       ⟨planeRect (k0_off5 (grid0.coords t)) (k0_off5_inb _), k0_pay4 (k0_pay3 x0 x2 x1)⟩,
       ⟨planeRect (k0_off4 (grid0.coords t)) (k0_off4_inb _), k0_pay2 x0 x2 x1⟩])
      = stacked x0 x1 x2 := by
  funext y
  idx_vars y
  rw [read_tile, read_plane _ _ _ _ (wcoff0_0_17 t), read_plane _ _ _ _ (wcoff0_0_16 t), read_plane _ _ _ _ (wcoff0_0_15 t),
    read_plane _ _ _ _ (wcoff0_0_14 t), read_plane _ _ _ _ (wcoff0_0_13 t), read_plane _ _ _ _ (wcoff0_0_12 t),
    read_plane _ _ _ _ (wcoff0_0_11 t), read_plane _ _ _ _ (wcoff0_0_10 t)]
  fin_cases y0 <;> rfl

/-- A piece of the result read after it was overwritten whole is what was written. -/
theorem read_piece (u : Fin 12) (f : (wpiece0_0 u 0).view.ty.Contents (Elt F)) (D : S8x672x672.Idx → Elt F .f32) :
    View.read (Elt F) (wpiece0_0 u 0).view ((wpiece0_0 u 0).view.writes (Elt F) f [⟨Rect.whole S8x672x672, D⟩]) = D := by
  funext y
  exact View.read_writes_cons_hit _ _ (Rect.whole S8x672x672) D [] y y (Rect.emb_eq_of_coords _ _ _ fun a => by
    show (y a).val = 0 + 1 * (y a).val
    omega)

/-- The result read in piece `u` is the result at the piece's channels. -/
theorem read_piece_apply (u : Fin 12) (f : hbM0_0.view.ty.Contents (Elt F)) (k : Fin 8) (I J : Fin 672) :
    View.read (Elt F) (wpiece0_0 u 0).view f (ix3 k I J) = f (ix4 0 ⟨8 * u.val + k.val, by omega⟩ I J) := by
  have e : View.read (Elt F) (wpiece0_0 u 0).view f
      = shapeCast S8x672x672 (fun y => hbM0_0.view.read (Elt F) f ((Rect.unit (s := S1x96x672x672) ![0, 8 * u.val, 0, 0] S1x8x672x672.size
          (inb_wpiece0_0 u 0)).emb y)) squeezes_S1x8x672x672_S8x672x672.numel_eq := rfl
  rw [e, shapeCast_apply (k := ix4 0 k I J)]
  · refine congrArg f (funext fun a => Fin.ext ?_)
    match a with
    | ⟨0, _⟩ => show 0 + 1 * 0 = 0; omega
    | ⟨1, _⟩ => show 8 * u.val + 1 * k.val = 8 * u.val + k.val; omega
    | ⟨2, _⟩ => show 0 + 1 * I.val = I.val; omega
    | ⟨3, _⟩ => show 0 + 1 * J.val = J.val; omega
  · rw [Shape.rowMajor_val_three, Shape.rowMajor_val_four]
    show (((0 : ℕ) * 8 + k.val) * 672 + I.val) * 672 + J.val = (k.val * 672 + I.val) * 672 + J.val
    omega

/-- Contents that read alike through a view agree on its elements. -/
theorem eqOn_of_read_eq {sig : RefSig} {κ : Kind} {sp : Space} {s : Shape} {e : EltTy} {Val : EltTy → Type} (v : View sig κ sp s e)
    (f g : v.ty.Contents Val) (h : v.read Val f = v.read Val g) : ∀ i ∈ v.set, f i = g i := by
  intro i hi
  obtain ⟨y, -, rfl⟩ := Finset.mem_map.mp hi
  have h1 := congrFun h y
  unfold View.read at h1
  exact cast_inj _ |>.mp h1

end Cert.KernelValue

end
-- ==== Proof.KernelRun.lean ====
/-
  The body's triple in the three cases of its two branches, with the values its copies carry: what a copy in flight
  delivers is the planes of the point that started it, stacked.
-/
module

public import proofs.«01_k».proof.Proof.KernelTile

@[expose] public section

set_option maxRecDepth 16384

noncomputable section

namespace Cert.KernelValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Piece `u` of the result held, reading `X u`. -/
abbrev pieceV (c : Dev nD) (X : Fin 12 → S8x672x672.Idx → Elt F .f32) (u : Fin 12) : sProp 𝕄 :=
  iprop(∃ f, ⌜View.read (Elt F) (wpiece0_0 u 0).view f = X u⌝ ∗ wpieceP0_0 c u 0 f)

/-- The copy out of tile `g` in flight to piece `u`: it delivers the piece reading `X u`, and the tile back. -/
abbrev flightV (c : Dev nD) (X : Fin 12 → S8x672x672.Idx → Elt F .f32) (g : Fin 2) (u : Fin 12) : sProp 𝕄 :=
  iprop(∃ f e, ⌜View.read (Elt F) (wpiece0_0 u 0).view f = X u⌝
    ∗ Transfers.Flight countersEmb (c : Thread nD τ) (wcellR0_0 g 0) default ((wpiece0_0 u 0).view.amount (wcellR0_0 g 0))
        iprop(wpieceP0_0 c u 0 f ∗ wtileP0_0 c g 0 e))

/-- What a copy out leaves in its piece, from what its tile held: the planes stacked. -/
theorem landed (t : Fin cfg0.N) (u : Fin 12) (f : (wpiece0_0 u 0).view.ty.Contents (Elt F)) (e : scM0_0.view.ty.Contents (Elt F))
    (X : Fin 12 → S8x672x672.Idx → Elt F .f32) {arg1 : Memref sig .tc .vmem S1x8x224x224 .f32} (harg1 : arg1.IsWhole)
    {arg2 : Memref sig .tc .vmem S672x224 .bf16} (harg2 : arg2.IsWhole) {arg3 : Memref sig .tc .vmem S224x672 .bf16} (harg3 : arg3.IsWhole)
    (x0 : Vec F S1x8x224x224 .f32) (x1 : Vec F S672x224 .bf16) (x2 : Vec F S224x672 .bf16) (hX : X u = stacked x0 x1 x2)
    (v0 : Vec F S1x8x224x224 .f32) (h0 : v0 = x0) (v1 : Vec F S672x224 .bf16) (h1 : v1 = x1) (v2 : Vec F S224x672 .bf16) (h2 : v2 = x2) :
    View.read (Elt F) (wpiece0_0 u 0).view ((wpiece0_0 u 0).view.writes (Elt F) f [⟨Rect.whole S8x672x672,
      View.read (Elt F) (wtile0_0 (Ring.sl 2 t.val) 0).view (scM0_0.view.writes (Elt F) e
      [⟨planeRect (k0_off11 (grid0.coords t)) (k0_off11_inb _), k0_pay11 (k0_pay1 v0 v2) v1⟩,
       ⟨planeRect (k0_off10 (grid0.coords t)) (k0_off10_inb _), k0_pay10 (k0_pay1 v0 v2) v1⟩,
       ⟨planeRect (k0_off9 (grid0.coords t)) (k0_off9_inb _), k0_pay9 (k0_pay8 (k0_pay1 v0 v2) v1)⟩,
       ⟨planeRect (k0_off8 (grid0.coords t)) (k0_off8_inb _), k0_pay7 (k0_pay1 v0 v2) v1⟩,
       ⟨planeRect (k0_off7 (grid0.coords t)) (k0_off7_inb _), k0_pay6 (k0_pay1 v0 v2) v1⟩,
       ⟨planeRect (k0_off6 (grid0.coords t)) (k0_off6_inb _), k0_pay5 (k0_pay1 v0 v2) v1⟩,
       ⟨planeRect (k0_off5 (grid0.coords t)) (k0_off5_inb _), k0_pay4 (k0_pay3 v0 v2 v1)⟩,
       ⟨planeRect (k0_off4 (grid0.coords t)) (k0_off4_inb _), k0_pay2 v0 v2 v1⟩])⟩]) = X u := by
  subst h0 h1 h2
  rw [read_piece, tile_stacked, hX]

/-- A load of a whole staging buffer at the contents that read `x` is `x`. -/
theorem load_whole {sp : Space} {s : Shape} {e : EltTy} {m : Memref sig .tc sp s e} (h : m.IsWhole) (x : s.Idx → Elt F e)
    {off : Fin s.rank → ℕ} (inb : ∀ a, off a + s.size a ≤ s.size a) :
    View.readAt (Elt F) m.view (Rect.unit off s.size inb).toLoadRect (h.unread x) = x :=
  (View.readAt_full m.view _ inb).trans (h.read_unread x)

set_option maxHeartbeats 1000000 in
/-- The first two points: the tile is free, and its copy out is left in flight. -/
theorem runA (c : Dev nD) (t : Fin cfg0.N) (X : Fin 12 → S8x672x672.Idx → Elt F .f32)
    (arg1 : Memref sig .tc .vmem S1x8x224x224 .f32) (harg1 : arg1.IsWhole) (arg2 : Memref sig .tc .vmem S672x224 .bf16) (harg2 : arg2.IsWhole)
    (arg3 : Memref sig .tc .vmem S224x672 .bf16) (harg3 : arg3.IsWhole) (hc0 : ¬cond0_0 (grid0.coords t)) (hc1 : ¬cond0_1 (grid0.coords t))
    (x0 : Vec F S1x8x224x224 .f32) (x1 : Vec F S672x224 .bf16) (x2 : Vec F S224x672 .bf16) (hX : X (Ring.bk 12 t.val) = stacked x0 x1 x2) :
    ∀ (W : Waits sig Unit) (K : PUnit → sProp 𝕄),
      iprop(owns (c : Thread nD τ) arg1 fullShare x0 ∗ owns (c : Thread nD τ) arg2 fullShare x1 ∗ owns (c : Thread nD τ) arg3 fullShare x2
          ∗ (∃ f, wpieceP0_0 c (Ring.bk 12 t.val) 0 f) ∗ wcellP0_0 c (Ring.sl 2 t.val) 0 ∗ (∃ e, wtileP0_0 c (Ring.sl 2 t.val) 0 e) ∗ owes (c : Thread nD τ) 0 W
          ∗ (iprop(owns (c : Thread nD τ) arg1 fullShare x0 ∗ owns (c : Thread nD τ) arg2 fullShare x1 ∗ owns (c : Thread nD τ) arg3 fullShare x2
              ∗ flightV c X (Ring.sl 2 t.val) (Ring.bk 12 t.val) ∗ (∃ W', owes (c : Thread nD τ) 0 W')) -∗ K ⟨⟩))
        ⊢ wp frame (wpE (defs₀ (F := F)) Variants.none c none) Set.univ (cc0__rf_scale_kernel (grid0.coords t) arg1 harg1 arg2 harg2 arg3 harg3
            (Memref.whole main_v1) (Memref.isWhole_whole _) scM0_0 (Memref.isWhole_whole _) cc0_scratch1) K := by
  intro W K
  haveI : Fact (¬cond0_0 (grid0.coords t)) := ⟨hc0⟩
  haveI : Fact (¬cond0_1 (grid0.coords t)) := ⟨hc1⟩
  simp only [cc0__rf_scale_kernel_eq_skeleton]; unfold cc0__rf_scale_kernel_skel
  simp only [k0_part4_eq_skeleton, k0_part2_eq_skeleton, k0_part3_eq_skeleton]
  unfold owns
  iintro ⟨⟨%f0, %hf0, H0⟩, ⟨%f1, %hf1, H1⟩, ⟨%f2, %hf2, H2⟩, ⟨%fp, Hp⟩, Hq, ⟨%et, Ht⟩, HW, Hk⟩
  obtain rfl := harg1.eq_unread hf0; obtain rfl := harg2.eq_unread hf1; obtain rfl := harg3.eq_unread hf2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [Hq]
  · iexists _, _; isplitr; swap; · iexact Hq
    ipureintro
    exact landed t (Ring.bk 12 t.val) fp et X harg1 harg2 harg3 x0 x1 x2 hX _ (load_whole harg1 x0 _) _ (load_whole harg2 x1 _) _ (load_whole harg3 x2 _)
  iexists _; iexact HW

set_option maxHeartbeats 1000000 in
/-- The points between: the tile's copy of two points before is waited for, delivering its piece, and the new copy is left in flight. -/
theorem runB (c : Dev nD) (t : Fin cfg0.N) (X : Fin 12 → S8x672x672.Idx → Elt F .f32)
    (arg1 : Memref sig .tc .vmem S1x8x224x224 .f32) (harg1 : arg1.IsWhole) (arg2 : Memref sig .tc .vmem S672x224 .bf16) (harg2 : arg2.IsWhole)
    (arg3 : Memref sig .tc .vmem S224x672 .bf16) (harg3 : arg3.IsWhole) (hc0 : cond0_0 (grid0.coords t)) (hc1 : ¬cond0_1 (grid0.coords t))
    (x0 : Vec F S1x8x224x224 .f32) (x1 : Vec F S672x224 .bf16) (x2 : Vec F S224x672 .bf16) (hX : X (Ring.bk 12 t.val) = stacked x0 x1 x2) :
    ∀ (W : Waits sig Unit) (K : PUnit → sProp 𝕄),
      iprop(owns (c : Thread nD τ) arg1 fullShare x0 ∗ owns (c : Thread nD τ) arg2 fullShare x1 ∗ owns (c : Thread nD τ) arg3 fullShare x2
          ∗ (∃ f, wpieceP0_0 c (Ring.bk 12 t.val) 0 f) ∗ flightV c X (Ring.sl 2 t.val) (Ring.bk 12 (t.val - 2)) ∗ owes (c : Thread nD τ) 0 W
          ∗ (iprop(owns (c : Thread nD τ) arg1 fullShare x0 ∗ owns (c : Thread nD τ) arg2 fullShare x1 ∗ owns (c : Thread nD τ) arg3 fullShare x2
              ∗ pieceV c X (Ring.bk 12 (t.val - 2)) ∗ flightV c X (Ring.sl 2 t.val) (Ring.bk 12 t.val) ∗ (∃ W', owes (c : Thread nD τ) 0 W')) -∗ K ⟨⟩))
        ⊢ wp frame (wpE (defs₀ (F := F)) Variants.none c none) Set.univ (cc0__rf_scale_kernel (grid0.coords t) arg1 harg1 arg2 harg2 arg3 harg3
            (Memref.whole main_v1) (Memref.isWhole_whole _) scM0_0 (Memref.isWhole_whole _) cc0_scratch1) K := by
  intro W K
  haveI : Fact (cond0_0 (grid0.coords t)) := ⟨hc0⟩
  haveI : Fact (¬cond0_1 (grid0.coords t)) := ⟨hc1⟩
  simp only [cc0__rf_scale_kernel_eq_skeleton]; unfold cc0__rf_scale_kernel_skel
  simp only [k0_part4_eq_skeleton, k0_part2_eq_skeleton, k0_part3_eq_skeleton]
  unfold owns
  iintro ⟨⟨%f0, %hf0, H0⟩, ⟨%f1, %hf1, H1⟩, ⟨%f2, %hf2, H2⟩, ⟨%fp, Hp⟩, ⟨%ff, %fe, %hF, HF⟩, HW, Hk⟩
  obtain rfl := harg1.eq_unread hf0; obtain rfl := harg2.eq_unread hf1; obtain rfl := harg3.eq_unread hf2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HF_dst]
  · iexists _; isplitr; · ipureintro; exact hF
    iexact HF_dst
  isplitl [HF]
  · iexists _, _; isplitr; swap; · iexact HF
    ipureintro
    exact landed t (Ring.bk 12 t.val) fp fe X harg1 harg2 harg3 x0 x1 x2 hX _ (load_whole harg1 x0 _) _ (load_whole harg2 x1 _) _ (load_whole harg3 x2 _)
  iexists _; iexact HW

set_option maxHeartbeats 1000000 in
/-- The last point: besides, the two copies still in flight are waited for. -/
theorem runC (c : Dev nD) (t : Fin cfg0.N) (X : Fin 12 → S8x672x672.Idx → Elt F .f32)
    (arg1 : Memref sig .tc .vmem S1x8x224x224 .f32) (harg1 : arg1.IsWhole) (arg2 : Memref sig .tc .vmem S672x224 .bf16) (harg2 : arg2.IsWhole)
    (arg3 : Memref sig .tc .vmem S224x672 .bf16) (harg3 : arg3.IsWhole) (hc0 : cond0_0 (grid0.coords t)) (hc1 : cond0_1 (grid0.coords t))
    (x0 : Vec F S1x8x224x224 .f32) (x1 : Vec F S672x224 .bf16) (x2 : Vec F S224x672 .bf16) (hX : X (Ring.bk 12 t.val) = stacked x0 x1 x2) :
    ∀ (W : Waits sig Unit) (K : PUnit → sProp 𝕄),
      iprop(owns (c : Thread nD τ) arg1 fullShare x0 ∗ owns (c : Thread nD τ) arg2 fullShare x1 ∗ owns (c : Thread nD τ) arg3 fullShare x2
          ∗ (∃ f, wpieceP0_0 c (Ring.bk 12 t.val) 0 f) ∗ flightV c X (Ring.sl 2 t.val) (Ring.bk 12 (t.val - 2)) ∗ flightV c X (Ring.sl 2 (t.val + 1)) (Ring.bk 12 (t.val - 1)) ∗ owes (c : Thread nD τ) 0 W
          ∗ (iprop(owns (c : Thread nD τ) arg1 fullShare x0 ∗ owns (c : Thread nD τ) arg2 fullShare x1 ∗ owns (c : Thread nD τ) arg3 fullShare x2
              ∗ pieceV c X (Ring.bk 12 t.val) ∗ pieceV c X (Ring.bk 12 (t.val - 2)) ∗ pieceV c X (Ring.bk 12 (t.val - 1))
              ∗ wcellP0_0 c (Ring.sl 2 t.val) 0 ∗ (∃ e, wtileP0_0 c (Ring.sl 2 t.val) 0 e) ∗ wcellP0_0 c (Ring.sl 2 (t.val + 1)) 0 ∗ (∃ e, wtileP0_0 c (Ring.sl 2 (t.val + 1)) 0 e) ∗ (∃ W', owes (c : Thread nD τ) 0 W')) -∗ K ⟨⟩))
        ⊢ wp frame (wpE (defs₀ (F := F)) Variants.none c none) Set.univ (cc0__rf_scale_kernel (grid0.coords t) arg1 harg1 arg2 harg2 arg3 harg3
            (Memref.whole main_v1) (Memref.isWhole_whole _) scM0_0 (Memref.isWhole_whole _) cc0_scratch1) K := by
  intro W K
  haveI : Fact (cond0_0 (grid0.coords t)) := ⟨hc0⟩
  haveI : Fact (cond0_1 (grid0.coords t)) := ⟨hc1⟩
  simp only [cc0__rf_scale_kernel_eq_skeleton]; unfold cc0__rf_scale_kernel_skel
  simp only [k0_part4_eq_skeleton, k0_part2_eq_skeleton, k0_part3_eq_skeleton, k0_part1_eq_skeleton]
  unfold owns
  iintro ⟨⟨%f0, %hf0, H0⟩, ⟨%f1, %hf1, H1⟩, ⟨%f2, %hf2, H2⟩, ⟨%fp, Hp⟩, ⟨%ff, %fe, %hF, HF⟩, ⟨%gf, %ge, %hI, HI⟩, HW, Hk⟩
  obtain rfl := harg1.eq_unread hf0; obtain rfl := harg2.eq_unread hf1; obtain rfl := harg3.eq_unread hf2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [Hp]
  · iexists _; isplitr; swap; · iexact Hp
    ipureintro
    exact landed t (Ring.bk 12 t.val) fp fe X harg1 harg2 harg3 x0 x1 x2 hX _ (load_whole harg1 x0 _) _ (load_whole harg2 x1 _) _ (load_whole harg3 x2 _)
  isplitl [HF_dst]
  · iexists _; isplitr; · ipureintro; exact hF
    iexact HF_dst
  isplitl [HI_dst]
  · iexists _; isplitr; · ipureintro; exact hI
    iexact HI_dst
  isplitl [HF]; · iexact HF
  isplitl [HF_src]; · iexists _; iexact HF_src
  isplitl [HI]; · iexact HI
  isplitl [HI_src]; · iexists _; iexact HI_src
  iexists _; iexact HW

end Cert.KernelValue

end
-- ==== Proof.KernelLaunch.lean ====
/-
  The launch, with the result named: the write-behind ring carried from point to point with what its pieces hold, the body
  obligation, and the run of the program whose final result is every point's planes at the point's channels.
-/
module

public import proofs.«01_k».proof.Proof.KernelRun
public import Idealize.ShloMosaic.Lib.Pipeline.FrameValue

@[expose] public section

set_option maxRecDepth 16384

noncomputable section

namespace Cert.KernelValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the result holds -/

/-- A step of the ring as a point of the grid. -/
abbrev pointOf (u : Fin 12) : Fin cfg0.N := ⟨u.val, lt_of_lt_of_eq u.isLt (show cfg0.N = 12 from N_0).symm⟩

/-- What piece `u` of the result ends with: point `u`'s planes. -/
def pieceVal (c : Dev nD) (u : Fin 12) : S8x672x672.Idx → Elt F .f32 :=
  stacked (iblk m c 0 (pointOf u)) (iblk m c 1 (pointOf u)) (iblk m c 2 (pointOf u))

/-- The result: channel `8 u + k` is plane `k` of point `u`. -/
def resultVal (c : Dev nD) : Buf (Elt F) ((c : Thread nD τ).loc main_v1) := fun i =>
  pieceVal m c ⟨(i 1).val / 8, by have h : (i 1).val < 96 := (i 1).isLt; omega⟩ (ix3 ⟨(i 1).val % 8, by omega⟩ (i 2) (i 3))

/-- The point a step of the ring is taken at leaves its own planes in the step's piece. -/
theorem pieceVal_at (c : Dev nD) (t : Fin cfg0.N) :
    pieceVal m c (Ring.bk 12 t.val) = stacked (iblk m c 0 t) (iblk m c 1 t) (iblk m c 2 t) := by
  have e : pointOf (Ring.bk 12 t.val) = t :=
    Fin.ext (Ring.bk_val (lt_of_lt_of_eq t.isLt (show cfg0.N = 12 from N_0)))
  unfold pieceVal
  rw [e]

/-- The result read in piece `u` is what the piece ends with. -/
theorem read_resultVal (c : Dev nD) (u : Fin 12) :
    View.read (Elt F) (wpiece0_0 u 0).view (resultVal m c) = pieceVal m c u := by
  funext y
  idx_vars y
  rw [read_piece_apply]
  show pieceVal m c ⟨(8 * u.val + y0.val) / 8, _⟩ (ix3 ⟨(8 * u.val + y0.val) % 8, _⟩ y1 y2) = _
  have h0 := y0.isLt
  have eu : (⟨(8 * u.val + y0.val) / 8, by omega⟩ : Fin 12) = u := Fin.ext (by show (8 * u.val + y0.val) / 8 = u.val; omega)
  have ek : (⟨(8 * u.val + y0.val) % 8, by omega⟩ : Fin 8) = y0 := Fin.ext (by show (8 * u.val + y0.val) % 8 = y0.val; omega)
  rw [eu, ek]

/-! ## The ring before each point -/

/-- The pieces of the steps past hold their values, the copies in flight deliver theirs, the rest is as launched. -/
def ringV (c : Dev nD) (k : ℕ) : sProp 𝕄 :=
  Ring.AtBΦ 2 (wfree0_0 c) (flightV c (pieceVal m c)) (whome0_0 c) (pieceV c (pieceVal m c)) k

/-- The region invariant before point `k`. -/
def PhiV (c : Dev nD) (k : ℕ) : sProp 𝕄 :=
  iprop((∃ r, prngReg c r) ∗ ringV m c k ∗ wtileSpare0_0 c ∗ wpieceSpare0_0 c)

/-- The pipeline's proof data: inputs left in place, the ring with its values carried, nothing owed. -/
def datsV (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := PhiV m c t.val
  q _ := fullShare
  owed _ := 0

/-- The arrays are the launch's. -/
theorem A_eqV (c : Dev nD) (w : Fin cfg0.W) : (datsV m 0 c).A w = V m c (Pipeline.arrRef spec0 w) := by
  dsimp only [datsV]

/-- After a point the input's buffer holds its block. -/
theorem after_0 (c : Dev nD) (t : Fin cfg0.N) : (datsV m 0 c).after 0 t = iblk m c 0 t := by dsimp only [datsV]
/-- After a point the transposed matrix's buffer holds its block. -/
theorem after_1 (c : Dev nD) (t : Fin cfg0.N) : (datsV m 0 c).after 1 t = iblk m c 1 t := by dsimp only [datsV]
/-- After a point the matrix's buffer holds its block. -/
theorem after_2 (c : Dev nD) (t : Fin cfg0.N) : (datsV m 0 c).after 2 t = iblk m c 2 t := by dsimp only [datsV]

/-- Before a point the input's buffer holds its block. -/
theorem before_0 (c : Dev nD) (t : Fin cfg0.N) (d) : (datsV m 0 c).before 0 t d = iblk m c 0 t :=
  before0_0_of m (datsV m 0 c) (A_eqV m c 0) (after_0 m c) t d
/-- Before a point the transposed matrix's buffer holds its block. -/
theorem before_1 (c : Dev nD) (t : Fin cfg0.N) (d) : (datsV m 0 c).before 1 t d = iblk m c 1 t :=
  before0_1_of m (datsV m 0 c) (A_eqV m c 1) (after_1 m c) t d
/-- Before a point the matrix's buffer holds its block. -/
theorem before_2 (c : Dev nD) (t : Fin cfg0.N) (d) : (datsV m 0 c).before 2 t d = iblk m c 2 t :=
  before0_2_of m (datsV m 0 c) (A_eqV m c 2) (after_2 m c) t d

/-! ## The body at a point -/

/-- The inputs' staging buffers at point `t`, each holding its block. -/
abbrev insV (c : Dev nD) (t : Fin cfg0.N) : sProp 𝕄 :=
  iprop(owns (c : Thread nD τ) (ms0_0 t) fullShare (iblk m c 0 t) ∗ owns (c : Thread nD τ) (ms0_1 t) fullShare (iblk m c 1 t)
    ∗ owns (c : Thread nD τ) (ms0_2 t) fullShare (iblk m c 2 t))

set_option maxHeartbeats 800000 in
/-- THE STEP: with the ring before point `t` and the inputs' blocks staged, the body runs to the ring before the next point. -/
theorem step (c : Dev nD) (t : Fin cfg0.N) (W : Waits sig Unit) (K : PUnit → sProp 𝕄) :
    iprop(ringV m c t.val ∗ insV m c t ∗ owes (c : Thread nD τ) 0 W
        ∗ (iprop(ringV m c (t.val + 1) ∗ insV m c t ∗ (∃ W', owes (c : Thread nD τ) 0 W')) -∗ K ⟨⟩))
      ⊢ wp frame (wpE (defs₀ (F := F)) Variants.none c none) Set.univ (bodyAt0 t) K := by
  have hgN : grid0.N = 12 := N_0
  have hN : t.val < 12 := lt_of_lt_of_eq t.isLt (show cfg0.N = 12 from N_0)
  have hX := pieceVal_at m c t
  unfold ringV bodyAt0
  by_cases h0 : 2 ≤ t.val
  · by_cases h1 : t.val % 12 = 11
    · obtain ⟨hW2, hWend, -⟩ := wstep0_0_C t ((hcond0_0 t).mpr h0) ((hcond0_1 t).mpr h1)
      rw [Ring.AtBΦ_lt _ _ _ _ _ t.val (by omega), Ring.AtB22_here_last _ _ _ _ t.val hW2 hWend,
        Ring.AtBΦ_end _ _ _ _ _ (t.val + 1) hWend, Ring.AtB22_drained _ _ t.val hW2 hWend]
      iintro ⟨⟨Hp, HB, HF, HI⟩, ⟨H0, H1, H2⟩, HW, Hk⟩
      iapply (runC c t (pieceVal m c) _ _ _ _ _ _ ((hcond0_0 t).mpr h0) ((hcond0_1 t).mpr h1) (iblk m c 0 t) (iblk m c 1 t) (iblk m c 2 t) hX W K)
      isplitl [H0]; · iexact H0
      isplitl [H1]; · iexact H1
      isplitl [H2]; · iexact H2
      isplitl [Hp]; · iexact Hp
      isplitl [HF]; · iexact HF
      isplitl [HI]; · iexact HI
      isplitl [HW]; · iexact HW
      iintro ⟨H0, H1, H2, Ho, Hl, Hm, Hqo, Hto, Hqp, Htp, HW'⟩
      iapply Hk
      isplitl [HB Ho Hl Hm Hqo Hto Hqp Htp]
      · isplitl [HB Ho Hl Hm]
        · isplitl [Ho]; · iexact Ho
          isplitl [Hl]; · iexact Hl
          isplitl [Hm]; · iexact Hm
          iexact HB
        isplitl [Hqo Hto]
        · isplitl [Hqo]; · iexact Hqo
          iexact Hto
        isplitl [Hqp]; · iexact Hqp
        iexact Htp
      isplitl [H0 H1 H2]
      · isplitl [H0]; · iexact H0
        isplitl [H1]; · iexact H1
        iexact H2
      iexact HW'
    · obtain ⟨hW2, hWlt, -⟩ := wstep0_0_B t ((hcond0_0 t).mpr h0) (fun h => h1 ((hcond0_1 t).mp h))
      rw [Ring.AtBΦ_lt _ _ _ _ _ t.val (by omega), Ring.AtB22_here _ _ _ _ t.val hW2 (by omega),
        Ring.AtBΦ_lt _ _ _ _ _ (t.val + 1) hWlt, Ring.AtB22_next _ _ _ _ t.val hW2 (by omega)]
      iintro ⟨⟨⟨Hp, HA⟩, HB, HF, Hcar⟩, ⟨H0, H1, H2⟩, HW, Hk⟩
      iapply (runB c t (pieceVal m c) _ _ _ _ _ _ ((hcond0_0 t).mpr h0) (fun h => h1 ((hcond0_1 t).mp h)) (iblk m c 0 t) (iblk m c 1 t) (iblk m c 2 t) hX W K)
      isplitl [H0]; · iexact H0
      isplitl [H1]; · iexact H1
      isplitl [H2]; · iexact H2
      isplitl [Hp]; · iexact Hp
      isplitl [HF]; · iexact HF
      isplitl [HW]; · iexact HW
      iintro ⟨H0, H1, H2, Hl, Hn, HW'⟩
      iapply Hk
      isplitl [HA HB Hcar Hl Hn]
      · isplitl [HA]; · iexact HA
        isplitl [Hl HB]
        · isplitl [Hl]; · iexact Hl
          iexact HB
        isplitl [Hcar]; · iexact Hcar
        iexact Hn
      isplitl [H0 H1 H2]
      · isplitl [H0]; · iexact H0
        isplitl [H1]; · iexact H1
        iexact H2
      iexact HW'
  · have h1 : ¬ t.val % 12 = 11 := by omega
    obtain ⟨hWlt, -⟩ := wstep0_0_A t (fun h => h0 ((hcond0_0 t).mp h)) (fun h => h1 ((hcond0_1 t).mp h))
    -- the first two points differ only in what the other group is: free, or in flight; it rides along
    have key (R A : sProp 𝕄) :
        iprop(((whome0_0 c (Ring.bk 12 t.val) ∗ A) ∗ wfree0_0 c (Ring.sl 2 t.val) ∗ R) ∗ insV m c t ∗ owes (c : Thread nD τ) 0 W
            ∗ (iprop((A ∗ R ∗ flightV c (pieceVal m c) (Ring.sl 2 t.val) (Ring.bk 12 t.val)) ∗ insV m c t
                ∗ (∃ W', owes (c : Thread nD τ) 0 W')) -∗ K ⟨⟩))
          ⊢ wp frame (wpE (defs₀ (F := F)) Variants.none c none) Set.univ (bodyAt0 t) K := by
      unfold bodyAt0
      iintro ⟨⟨⟨Hp, HA⟩, ⟨Hq, Ht⟩, HR⟩, ⟨H0, H1, H2⟩, HW, Hk⟩
      iapply (runA c t (pieceVal m c) _ _ _ _ _ _ (fun h => h0 ((hcond0_0 t).mp h)) (fun h => h1 ((hcond0_1 t).mp h)) (iblk m c 0 t) (iblk m c 1 t) (iblk m c 2 t) hX W K)
      isplitl [H0]; · iexact H0
      isplitl [H1]; · iexact H1
      isplitl [H2]; · iexact H2
      isplitl [Hp]; · iexact Hp
      isplitl [Hq]; · iexact Hq
      isplitl [Ht]; · iexact Ht
      isplitl [HW]; · iexact HW
      iintro ⟨H0, H1, H2, Hn, HW'⟩
      iapply Hk
      isplitl [HA HR Hn]
      · isplitl [HA]; · iexact HA
        isplitl [HR]; · iexact HR
        iexact Hn
      isplitl [H0 H1 H2]
      · isplitl [H0]; · iexact H0
        isplitl [H1]; · iexact H1
        iexact H2
      iexact HW'
    rcases (show t.val = 0 ∨ t.val = 1 by omega) with hW | hW
    · rw [Ring.AtBΦ_lt _ _ _ _ _ t.val (by omega), Ring.AtB2_zero' 2 _ _ _ _ t.val hW,
        Ring.AtBΦ_lt _ _ _ _ _ (t.val + 1) (by omega), Ring.AtB22_next_zero' _ _ _ _ t.val hW]
      exact key _ _
    · rw [Ring.AtBΦ_lt _ _ _ _ _ t.val (by omega), Ring.AtB22_one' _ _ _ _ t.val hW (by decide),
        Ring.AtBΦ_lt _ _ _ _ _ (t.val + 1) (by omega), Ring.AtB22_next_one' _ _ _ _ t.val hW]
      exact key _ _

/-- What the body is called with at point `t`, -/
def preV (c : Dev nD) (t : Fin cfg0.N) : sProp 𝕄 :=
  iprop((datsV m 0 c).Φ t.castSucc ∗ (datsV m 0 c).owesAt () t.castSucc
    ∗ (∃ d, owns (c : Thread nD τ) (ms0_0 t) fullShare ((datsV m 0 c).before 0 t d))
    ∗ (∃ d, owns (c : Thread nD τ) (ms0_1 t) fullShare ((datsV m 0 c).before 1 t d))
    ∗ (∃ d, owns (c : Thread nD τ) (ms0_2 t) fullShare ((datsV m 0 c).before 2 t d)))

/-- and what it returns. -/
def postV (c : Dev nD) (t : Fin cfg0.N) : sProp 𝕄 :=
  iprop((datsV m 0 c).Φ t.succ ∗ (datsV m 0 c).owesAt () t.succ
    ∗ owns (c : Thread nD τ) (ms0_0 t) fullShare ((datsV m 0 c).after 0 t)
    ∗ owns (c : Thread nD τ) (ms0_1 t) fullShare ((datsV m 0 c).after 1 t)
    ∗ owns (c : Thread nD τ) (ms0_2 t) fullShare ((datsV m 0 c).after 2 t))

/-- The body's triple at a point: the step, the register and the spare elements riding along. -/
theorem body_triple (c : Dev nD) (t : Fin cfg0.N) :
    preV m c t ⊢ wp frame (wpE (defs₀ (F := F)) Variants.none c none) Set.univ (bodyAt0 t) (fun _ => postV m c t) := by
  unfold preV postV
  simp only [before_0, before_1, before_2]
  rw [after_0, after_1, after_2, show (datsV m 0 c).Φ t.castSucc = PhiV m c t.val from rfl,
    show (datsV m 0 c).Φ t.succ = PhiV m c (t.val + 1) from rfl]
  unfold Dat.owesAt Pipeline.owesWithin
  rw [show (datsV m 0 c).owed t.castSucc = 0 from rfl, show (datsV m 0 c).owed t.succ = 0 from rfl]
  unfold PhiV
  iintro ⟨⟨Hg, HR, HT, HP⟩, ⟨%W, -, HW⟩, ⟨%d0, H0⟩, ⟨%d1, H1⟩, ⟨%d2, H2⟩⟩
  iapply (step m c t W _)
  isplitl [HR]; · iexact HR
  isplitl [H0 H1 H2]
  · isplitl [H0]; · iexact H0
    isplitl [H1]; · iexact H1
    iexact H2
  isplitl [HW]; · iexact HW
  iintro ⟨HR, ⟨H0, H1, H2⟩, ⟨%W', HW'⟩⟩
  isplitl [Hg HR HT HP]
  · isplitl [Hg]; · iexact Hg
    isplitl [HR]; · iexact HR
    isplitl [HT]; · iexact HT
    iexact HP
  isplitl [HW']
  · iexists W'; isplitr; · ipureintro; exact fun _ _ => Or.inl trivial
    iexact HW'
  isplitl [H0]; · iexact H0
  isplitl [H1]; · iexact H1
  iexact H2

/-- The pipeline's body obligation. -/
theorem obligation (c : Dev nD) : BodyObligation (datsV (F := F) m 0 c) (defs₀ (F := F)) Variants.none () Set.univ := fun t => by
  rw [bigSep_W0, bigSep_W0, defs₀_row]
  exact triple_restated (body_triple m c t) rfl .rfl fun _ => .rfl

/-! ## The launch -/

/-- Into the ring: as the frame certificate enters it, no piece having been written yet. -/
theorem enter (c : Dev nD) : Pipeline.ΦDRG osem0 spec0 H0 R0 (V m) (V m) c ⊢ (datsV m 0 c).Φ 0 := by
  refine (Pipeline.ΦDRG_ΦDR osem0 spec0 H0 R0 (V m) (V m) c).trans ((hin m c).trans ?_)
  rw [show (dats m 0 c).Φ 0 = PhiR m c 0 from rfl, show (datsV m 0 c).Φ 0 = PhiV m c 0 from rfl]
  unfold PhiR PhiV wringAt0_0 ringV
  rw [Ring.AtBΦ_lt _ _ _ _ _ 0 (by decide), Ring.AtB_zero, Ring.AtBΦ_lt _ _ _ _ _ 0 (by decide), Ring.AtB_zero]

/-- The contents a core's buffers end with: the result at its value. -/
abbrev endV (c : Dev nD) : (b : Ref sig .tc) → Buf (Elt F) ((c : Thread nD τ).loc b) :=
  Function.update (V m c) main_v1 (resultVal m c)

/-- The pieces are the whole result. -/
theorem pieces_cover : (Finset.univ.biUnion wpieceSet0_0 : Finset S1x96x672x672.Idx) = Finset.univ := by
  refine Finset.eq_univ_of_forall fun i => Finset.mem_biUnion.mpr
    ⟨(⟨(i 1).val / 8, by have h : (i 1).val < 96 := (i 1).isLt; omega⟩, 0), Finset.mem_univ _, ?_⟩
  refine (LoadRect.mem_set _).mpr fun a => ?_
  match a with
  | ⟨0, _⟩ => exact ⟨(i 0).val, (i 0).isLt, by show (i 0).val = 0 + 1 * (i 0).val; omega⟩
  | ⟨1, _⟩ => exact ⟨(i 1).val % 8, by show (i 1).val % 8 < 8; omega, by show (i 1).val = 8 * ((i 1).val / 8) + 1 * ((i 1).val % 8); omega⟩
  | ⟨2, _⟩ => exact ⟨(i 2).val, (i 2).isLt, by show (i 2).val = 0 + 1 * (i 2).val; omega⟩
  | ⟨3, _⟩ => exact ⟨(i 3).val, (i 3).isLt, by show (i 3).val = 0 + 1 * (i 3).val; omega⟩

/-- A piece at its value is the piece of the result. -/
theorem pieceV_result (c : Dev nD) (u : Fin 12) :
    pieceV c (pieceVal m c) u ⊢ (((c : Thread nD τ).loc main_v1) ↦[wpieceSet0_0 (u, 0)]{fullShare} resultVal m c : sProp 𝕄) := by
  iintro ⟨%f, %hf, H⟩
  have e : (wpieceP0_0 c u 0 f : sProp 𝕄) = wpieceP0_0 c u 0 (resultVal m c) :=
    pointsTo_congr (eqOn_of_read_eq (wpiece0_0 u 0).view f (resultVal m c) (hf.trans (read_resultVal m c u).symm))
  iapply (Entails.of_eq (e.trans (wpieceP0_0_eq c u 0 (resultVal m c))))
  iexact H

/-- All pieces at their values are the result at its value. -/
theorem pieces_result (c : Dev nD) :
    bigSep Finset.univ (pieceV c (pieceVal m c)) ⊢ (((c : Thread nD τ).loc main_v1) ↦{fullShare} resultVal m c : sProp 𝕄) := by
  have e := pointsTo_biUnion (Val := Elt F) (Ix := Unit) (Name := ℕ) (U := Pipeline.UD sig nD τ) (Lvl := ℕ) (ℓ := (c : Thread nD τ).loc main_v1)
    (q := fullShare) (f := resultVal m c) Finset.univ wpieceSet0_0 (fun i _ i' _ h => wpieces0_0_disjoint i i' h)
  rw [pieces_cover, BI.bigSep_univ_prod] at e
  rw [e]
  refine BI.bigSep_mono fun u _ => ?_
  rw [BI.bigSep_eq_bigSepL_of_eq [0] (by decide) (by decide)]
  exact pieceV_result m c u

/-- Out of the ring: the result at its value. -/
theorem leave (c : Dev nD) : (datsV m 0 c).Φ (Fin.last cfg0.N) ⊢ Pipeline.ΦDRG osem0 spec0 H0 R0 (V m) (endV m) c := by
  have er : (Pipeline.routed R0 c (endV m c) : sProp 𝕄)
      = (((c : Thread nD τ).loc main_v1) ↦{fullShare} resultVal m c : sProp 𝕄) := by
    unfold Pipeline.routed
    rw [BI.bigSep_eq_bigSepL_of_eq [main_v1] (by decide) (by decide)]
    simp only [BI.bigSepL_singleton, endV, Function.update_self]
  rw [Pipeline.ΦDRG_eq, scopedRest0_eq, ownSems00_eq, hbmPts0_eq, er,
    show (datsV m 0 c).Φ (Fin.last cfg0.N) = PhiV m c grid0.N from rfl, show grid0.N = 12 by rw [N_0]]
  unfold PhiV ringV
  rw [Ring.AtBΦ_ge _ _ _ _ _ 12 (by decide)]
  unfold Ring.AtBEnd
  rw [← wfrees0_0_eq, wcells0_0_eq]
  iintro ⟨Hg, ⟨HP, HQ, HT⟩, HTs, HPs⟩
  isplitl [HT HTs]
  · have hs := wtiles0_0_out (F := F) c
    simp only [scM0_0, owns_whole] at hs
    iapply hs
    isplitl [HT]; · iexact HT
    iexact HTs
  isplitl [Hg]; · iexact Hg
  isplitl [HQ]; · iexact HQ
  isplitr; · iempintro
  iapply (pieces_result m c)
  iexact HP

set_option backward.isDefEq.respectTransparency.types false in
/-- THE LAUNCH: the program runs, the argument is unchanged, and the result ends at its value. -/
theorem run_value : θ_run defs (onTc (τ := τ) (main (F := F))) (s₀ m ρ)
    (fun r => Pipeline.FramePostRG cfgs (datsV m) 0 R0 (V m) (endV m) r ∧ r.2.sem = fun _ => 0) :=
  Pipeline.θ_run_frame_dmaRG (Q' := _) cfgs (datsV m) (0 : Fin 1) launch0 osem0 defs₀ Variants.none ownSemFacts0 H0 R0 H0_sub R0_sub m ρ main
    (hbody := fun c => (obligation m c).loose) (hshare := fun c => (datsV m 0 c).share_full fun _ => rfl)
    (howed := fun _ _ => rfl) (V := V m) (hmain := hmain m Variants.none) (hA := A_eqV m) (G := endV m)
    (hin := enter m) (hout := leave m)

/-- THE KERNEL'S RESULT, at any float values: every point's planes at the point's channels, the argument unchanged. -/
theorem run_result : θ_run defs (onTc (τ := τ) (main (F := F))) (s₀ m ρ) (fun r => ∀ c : Dev nD,
    r.2.mem ((c.tc : Thread nD τ).loc main_v1) = resultVal m c
      ∧ r.2.mem ((c.tc : Thread nD τ).loc main_arg0) = m ((c.tc : Thread nD τ).loc main_arg0)) := by
  have h1 := (θ_run defs _ _).mono (fun _ h => h.1.toR) (run_value m ρ)
  refine (θ_run defs _ _).mono (fun r h c => ⟨?_, h.2 c⟩) (θ_run_and (run_value m ρ) (frame_of m ρ (datsV m) (A_eqV m) h1))
  refine (h.1.1.written c (b := main_v1) (by decide)).trans ?_
  simp only [endV, Function.update_self]

end Cert.KernelValue

end
-- ==== Proof.Stencil.lean ====
/-
  The bilinear stencil both programs compute, over the extended reals, and the arithmetic between its two spellings.

  Output row (or column) `J` of the 672 averages the input rows `lo J` and `hi J` of the 224, each with weight 1/2: the
  points `(J - 1) / 3` and `(J + 1) / 3` rounded down, reflected at the border. The kernel spells the average as a product
  with a 224 x 672 matrix that holds 1/2 at `lo J` and 1/2 at `hi J` (1 where they meet); the reference spells it as the
  interpolation `(1 - f) * a + f * b` at a point whose fractional part `f` is 0 or 1/2.
-/
module

public import Idealize.ShloMosaic.PureOps.Ideal

@[expose] public section

noncomputable section

namespace Cert.Stencil

/-- The upper (left) input row averaged into output row `J`: `(J - 1) / 3` rounded down, reflected at the border. -/
def lo (J : ℕ) : ℕ := if J % 3 = 0 then (if J = 0 then 1 else J / 3 - 1) else J / 3
/-- The lower (right) input row averaged into output row `J`: `(J + 1) / 3` rounded down, reflected at the border. -/
def hi (J : ℕ) : ℕ := if J % 3 = 2 then (if J = 671 then 222 else J / 3 + 1) else J / 3

/-- Both rows are rows of the input. -/
theorem lo_lt {J : ℕ} (h : J < 672) : lo J < 224 := by unfold lo; split_ifs <;> omega
/-- Both rows are rows of the input. -/
theorem hi_lt {J : ℕ} (h : J < 672) : hi J < 224 := by unfold hi; split_ifs <;> omega

/-- One half, as an extended real. -/
def half : EReal := ((1 / 2 : ℝ) : EReal)

/-- One half is nonnegative. -/
theorem half_nonneg : 0 ≤ half := by
  unfold half; exact_mod_cast (by norm_num : (0 : ℝ) ≤ 1 / 2)
/-- One half is finite. -/
theorem half_ne_top : half ≠ ⊤ := EReal.coe_ne_top _
/-- Two halves are one. -/
theorem half_add_half : half + half = 1 := by
  unfold half; rw [← EReal.coe_add]; norm_num

/-- The weight of input row `w` in output row `J`. -/
def wt (w J : ℕ) : EReal := (if w = lo J then half else 0) + (if w = hi J then half else 0)

/-- A row of values against a column of weights is the average of the two rows the column names. -/
theorem sum_mul_wt (f : Fin 224 → EReal) (J : ℕ) (hJ : J < 672) :
    ∑ w : Fin 224, f w * wt w.val J = f ⟨lo J, lo_lt hJ⟩ * half + f ⟨hi J, hi_lt hJ⟩ * half := by
  have step : ∀ w : Fin 224, f w * wt w.val J
      = (if w = ⟨lo J, lo_lt hJ⟩ then f w * half else 0) + (if w = ⟨hi J, hi_lt hJ⟩ then f w * half else 0) := by
    intro w
    unfold wt
    rw [EReal.left_distrib_of_nonneg (by split_ifs <;> first | exact half_nonneg | exact le_refl _)
      (by split_ifs <;> first | exact half_nonneg | exact le_refl _)]
    simp only [mul_ite, mul_zero, Fin.ext_iff]
  simp only [step, Finset.sum_add_distrib, Finset.sum_ite_eq', Finset.mem_univ, if_true]

/-- A column of weights against a row of values, the factors in the other order. -/
theorem sum_wt_mul (f : Fin 224 → EReal) (J : ℕ) (hJ : J < 672) :
    ∑ w : Fin 224, wt w.val J * f w = half * f ⟨lo J, lo_lt hJ⟩ + half * f ⟨hi J, hi_lt hJ⟩ := by
  rw [mul_comm half, mul_comm half, ← sum_mul_wt f J hJ]
  exact Finset.sum_congr rfl fun w _ => mul_comm _ _

/-- The interpolation weight of the nearer point, `1 - f`, at `f = 1/2` (`b` true) or `f = 0`. -/
def near (b : Bool) : ℝ := if b then 1 / 2 else 1
/-- The interpolation weight of the farther point, `f`. -/
def far (b : Bool) : ℝ := if b then 1 / 2 else 0

/-- The nearer point's weight is nonnegative. -/
theorem near_nonneg (b : Bool) : 0 ≤ near b := by unfold near; split_ifs <;> norm_num
/-- The farther point's weight is nonnegative. -/
theorem far_nonneg (b : Bool) : 0 ≤ far b := by unfold far; split_ifs <;> norm_num

/-- Interpolation at fractional part 0 or 1/2 is the average of the two rows the stencil names: the point and the next one
    when the fraction is 1/2, the point twice when it is 0. -/
theorem interp (b : Bool) (x y u v : EReal) (hu : u = x) (hv : v = if b then y else x) :
    (near b : EReal) * x + (far b : EReal) * y = half * u + half * v := by
  subst hu hv
  cases b
  · simp only [near, far, Bool.false_eq_true, if_false, EReal.coe_one, EReal.coe_zero, one_mul, zero_mul, add_zero]
    rw [← EReal.right_distrib_of_nonneg half_nonneg half_nonneg, half_add_half, one_mul]
  · simp only [near, far, if_true]; rfl

/-- A nonnegative real scales a sum of extended reals term by term. -/
theorem coe_mul_add {r : ℝ} (hr : 0 ≤ r) (x y : EReal) : (r : EReal) * (x + y) = (r : EReal) * x + (r : EReal) * y :=
  EReal.left_distrib_of_nonneg_of_ne_top (by exact_mod_cast hr) (EReal.coe_ne_top r) x y

/-- The two-dimensional case: the four corner terms of the reference, in its order, against the kernel's average over the
    rows of averages over the columns. `x`, `y`, `z`, `w` are the corners (near, near), (far, far), (near, far), (far, near). -/
theorem interp₂ (b d : Bool) (x y z w p q r s : EReal) (hp : p = x) (hq : q = if d then z else x)
    (hr : r = if b then w else x) (hs : s = if b then (if d then y else w) else (if d then z else x)) :
    ((near b * near d : ℝ) : EReal) * x + ((far b * far d : ℝ) : EReal) * y + ((near b * far d : ℝ) : EReal) * z
        + ((far b * near d : ℝ) : EReal) * w
      = half * (p * half + q * half) + half * (r * half + s * half) := by
  have e : ((near b * near d : ℝ) : EReal) * x + ((far b * far d : ℝ) : EReal) * y + ((near b * far d : ℝ) : EReal) * z
        + ((far b * near d : ℝ) : EReal) * w
      = (near b : EReal) * ((near d : EReal) * x + (far d : EReal) * z)
        + (far b : EReal) * ((near d : EReal) * w + (far d : EReal) * y) := by
    rw [coe_mul_add (near_nonneg b), coe_mul_add (far_nonneg b)]
    simp only [EReal.coe_mul, mul_assoc]
    abel
  rw [e, interp d x z p q hp hq, interp d w y w (if d then y else w) rfl rfl,
    interp b _ _ (half * p + half * q) (half * r + half * s) rfl ?_]
  · simp only [mul_comm half]
  · subst hp hq hr hs
    cases b <;> rfl

end Cert.Stencil

end
-- ==== Proof.KernelTable.lean ====
/-
  The interpolation matrix the kernel multiplies by, entry by entry: row `w`, column `J` of the 224 x 672 table holds the
  bfloat16 word of the weight of input row `w` in output row `J`.
-/
module

public import proofs.«01_k».proof.KernelIdeal
public import proofs.«01_k».proof.Proof.Stencil
public import Idealize.ShloMosaic.Lib.Tactic

@[expose] public section

set_option maxRecDepth 100000

noncomputable section

namespace Cert.KernelValue

open Cert.KernelIdeal

/-- The word of a weight: one half at each of the two rows, one where they meet. -/
def wtBits (w J : ℕ) : BitVec 16 :=
  if w = Cert.Stencil.lo J then (if w = Cert.Stencil.hi J then 0x3F80#16 else 0x3F00#16)
  else (if w = Cert.Stencil.hi J then 0x3F00#16 else 0x0000#16)

/-- The value at one of the first 10 numbers, 0 beyond them. -/
def pick10 (k : ℕ) (f : ℕ → BitVec 16) : BitVec 16 := match k with
  | 0 => f 0 | 1 => f 1 | 2 => f 2 | 3 => f 3 | 4 => f 4 | 5 => f 5 | 6 => f 6 | 7 => f 7
  | 8 => f 8 | 9 => f 9
  | _ => 0#16

/-- The value at one of the first 24 numbers, 0 beyond them. -/
def pick24 (k : ℕ) (f : ℕ → BitVec 16) : BitVec 16 := match k with
  | 0 => f 0 | 1 => f 1 | 2 => f 2 | 3 => f 3 | 4 => f 4 | 5 => f 5 | 6 => f 6 | 7 => f 7
  | 8 => f 8 | 9 => f 9 | 10 => f 10 | 11 => f 11 | 12 => f 12 | 13 => f 13 | 14 => f 14 | 15 => f 15
  | 16 => f 16 | 17 => f 17 | 18 => f 18 | 19 => f 19 | 20 => f 20 | 21 => f 21 | 22 => f 22 | 23 => f 23
  | _ => 0#16

/-- The value at one of the first 128 numbers, 0 beyond them. -/
def pick128 (k : ℕ) (f : ℕ → BitVec 16) : BitVec 16 := match k with
  | 0 => f 0 | 1 => f 1 | 2 => f 2 | 3 => f 3 | 4 => f 4 | 5 => f 5 | 6 => f 6 | 7 => f 7
  | 8 => f 8 | 9 => f 9 | 10 => f 10 | 11 => f 11 | 12 => f 12 | 13 => f 13 | 14 => f 14 | 15 => f 15
  | 16 => f 16 | 17 => f 17 | 18 => f 18 | 19 => f 19 | 20 => f 20 | 21 => f 21 | 22 => f 22 | 23 => f 23
  | 24 => f 24 | 25 => f 25 | 26 => f 26 | 27 => f 27 | 28 => f 28 | 29 => f 29 | 30 => f 30 | 31 => f 31
  | 32 => f 32 | 33 => f 33 | 34 => f 34 | 35 => f 35 | 36 => f 36 | 37 => f 37 | 38 => f 38 | 39 => f 39
  | 40 => f 40 | 41 => f 41 | 42 => f 42 | 43 => f 43 | 44 => f 44 | 45 => f 45 | 46 => f 46 | 47 => f 47
  | 48 => f 48 | 49 => f 49 | 50 => f 50 | 51 => f 51 | 52 => f 52 | 53 => f 53 | 54 => f 54 | 55 => f 55
  | 56 => f 56 | 57 => f 57 | 58 => f 58 | 59 => f 59 | 60 => f 60 | 61 => f 61 | 62 => f 62 | 63 => f 63
  | 64 => f 64 | 65 => f 65 | 66 => f 66 | 67 => f 67 | 68 => f 68 | 69 => f 69 | 70 => f 70 | 71 => f 71
  | 72 => f 72 | 73 => f 73 | 74 => f 74 | 75 => f 75 | 76 => f 76 | 77 => f 77 | 78 => f 78 | 79 => f 79
  | 80 => f 80 | 81 => f 81 | 82 => f 82 | 83 => f 83 | 84 => f 84 | 85 => f 85 | 86 => f 86 | 87 => f 87
  | 88 => f 88 | 89 => f 89 | 90 => f 90 | 91 => f 91 | 92 => f 92 | 93 => f 93 | 94 => f 94 | 95 => f 95
  | 96 => f 96 | 97 => f 97 | 98 => f 98 | 99 => f 99 | 100 => f 100 | 101 => f 101 | 102 => f 102 | 103 => f 103
  | 104 => f 104 | 105 => f 105 | 106 => f 106 | 107 => f 107 | 108 => f 108 | 109 => f 109 | 110 => f 110 | 111 => f 111
  | 112 => f 112 | 113 => f 113 | 114 => f 114 | 115 => f 115 | 116 => f 116 | 117 => f 117 | 118 => f 118 | 119 => f 119
  | 120 => f 120 | 121 => f 121 | 122 => f 122 | 123 => f 123 | 124 => f 124 | 125 => f 125 | 126 => f 126 | 127 => f 127
  | _ => 0#16

/-- The weights laid out row after row, as one reads a number by its digits in base 128. -/
def weightTable (i : ℕ) : BitVec 16 :=
  pick10 (i / 16384) fun a =>
    if a = 9 then pick24 (i / 128 % 128) fun b => pick128 (i % 128) fun r => wtBits ((16384 * a + 128 * b + r) / 672) ((16384 * a + 128 * b + r) % 672)
    else pick128 (i / 128 % 128) fun b => pick128 (i % 128) fun r => wtBits ((16384 * a + 128 * b + r) / 672) ((16384 * a + 128 * b + r) % 672)

/-- The kernel's table is the table of weights. -/
theorem table_eq (i : ℕ) : lit0t i = weightTable i := by
  sl_kernel_rfl

end Cert.KernelValue

end

end
-- ==== Proof.KernelValue.lean ====
/-
  The kernel's result at every index, over the extended reals: each plane is the input plane between two products with the
  interpolation matrix, and the matrix holds one half at the two rows of the stencil, so an element of the result is the
  average of averages of four input elements.
-/
module

public import proofs.«01_k».proof.Proof.KernelLaunch
public import proofs.«01_k».proof.Proof.KernelTable
public import Idealize.ShloMosaic.Lib.Pointwise
public import Idealize.ShloMosaic.Lib.IdealHost

@[expose] public section

set_option maxRecDepth 16384

noncomputable section

namespace Cert.KernelValue

open Cert.KernelIdeal Cert.KernelIdeal.Gen
open Idealize.ShloMosaic Idealize.ShloMosaic.TcCoe Idealize.ShloMosaic.Tactic
open Cert.Stencil (wt half lo hi)

variable (m : (ℓ : Loc nD τ sig) → Buf (Elt Ideal) ℓ)

/-! ## The table -/

/-- The value at one of the first numbers is the function's. -/
theorem pick128_eq (k : Fin 128) (f : ℕ → BitVec 16) : pick128 k.val f = f k.val := by
  fin_cases k <;> rfl
/-- The value at one of the first numbers is the function's. -/
theorem pick24_eq (k : Fin 24) (f : ℕ → BitVec 16) : pick24 k.val f = f k.val := by
  fin_cases k <;> rfl
/-- The value at one of the first numbers is the function's. -/
theorem pick10_eq (k : Fin 10) (f : ℕ → BitVec 16) : pick10 k.val f = f k.val := by
  fin_cases k <;> rfl

/-- The table's entry is the weight's word at the row and column its number names. -/
theorem weightTable_eq (i : ℕ) (h : i < 150528) : weightTable i = wtBits (i / 672) (i % 672) := by
  have e : 16384 * (i / 16384) + 128 * (i / 128 % 128) + i % 128 = i := by omega
  unfold weightTable
  rw [pick10_eq ⟨i / 16384, by omega⟩]
  dsimp only
  split_ifs with h9
  · rw [pick24_eq ⟨i / 128 % 128, by omega⟩, pick128_eq ⟨i % 128, by omega⟩]
    dsimp only
    rw [e]
  · rw [pick128_eq ⟨i / 128 % 128, by omega⟩, pick128_eq ⟨i % 128, by omega⟩]
    dsimp only
    rw [e]

/-- The bfloat16 word `0x3F00` is one half. -/
theorem ofBits_half : Ideal.ofBits .bf16 0x3F00#16 = half := by
  unfold Cert.Stencil.half
  simp [Ideal.ofBits, Ideal.ieee, -EReal.coe_mul]; norm_num

/-- A weight's word is the weight. -/
theorem ofBits_wtBits (w J : ℕ) : Ideal.ofBits .bf16 (wtBits w J) = wt w J := by
  unfold wtBits wt
  split_ifs
  · rw [Cert.Stencil.half_add_half]; exact Ideal.ofBits_one_bf16
  · rw [add_zero]; exact ofBits_half
  · rw [zero_add]; exact ofBits_half
  · rw [add_zero]; exact Ideal.ofBits_zero_bf16

/-- The matrix as the launch finds it. -/
theorem V_cst_apply (c : Dev nD) (w : Fin 224) (J : Fin 672) : V m c main_cst (ix2 w J) = wt w.val J.val := by
  have e : V m c main_cst (ix2 w J) = Ideal.ofBits .bf16 (lit0 (S224x672.rowMajor (ix2 w J))) := rfl
  have hr : (S224x672.rowMajor (ix2 w J)).val = w.val * 672 + J.val := Shape.rowMajor_val_two _
  have hl : lit0 (S224x672.rowMajor (ix2 w J)) = lit0t (w.val * 672 + J.val) := by
    rw [← hr]
  have := w.isLt; have := J.isLt
  rw [e, hl, table_eq, weightTable_eq _ (by omega), ofBits_wtBits]
  congr 1 <;> omega

/-- The transposed matrix as the launch finds it. -/
theorem V_v0_apply (c : Dev nD) (J : Fin 672) (w : Fin 224) : V m c main_v0 (ix2 J w) = wt w.val J.val := by
  have e : V m c main_v0 = transpose S672x224 [1, 0] (V m c main_cst) transposes_S224x672_S672x224_1_0 := rfl
  rw [e]
  pointwise
  exact V_cst_apply m c w J

/-! ## The blocks -/

/-- The input's block at a point: the channels `8 t` to `8 t + 7`. -/
theorem block0_apply (c : Dev nD) (t : Fin 12) (k : Fin 8) (w v : Fin 224) :
    (iblk m c 0 (pointOf t) : FVec Ideal S1x8x224x224 .f32) (ix4 0 k w v)
      = (m ((c : Thread nD τ).loc main_arg0) : FVec Ideal S1x96x224x224 .f32) (ix4 0 ⟨8 * t.val + k.val, by omega⟩ w v) := by
  rw [← V_main_arg0 m c]
  refine congrArg (V m c main_arg0) (funext fun a => Fin.ext ?_)
  have hc : (cfg0.grid.coords (pointOf t) 0).val = t.val := by
    rw [Pipeline.Grid.coords_val (pointOf t) 0 (S := 1) (B := 12) (by decide) rfl]
    have := t.isLt
    show t.val / 1 % 12 = t.val
    omega
  match a with
  | ⟨0, _⟩ => exact Pipeline.Window.rect_emb_val_of_index_zero win0_0 (pointOf t) 0 rfl _
  | ⟨1, _⟩ =>
    refine (Pipeline.Window.rect_emb_val win0_0 (pointOf t) _ 1).trans ?_
    show (BitVec.ofNat 32 (cfg0.grid.coords (pointOf t) 0).val).toNat * 8 + k.val = 8 * t.val + k.val
    have := t.isLt
    rw [hc, BitVec.toNat_ofNat, Nat.mod_eq_of_lt (by omega), Nat.mul_comm]
  | ⟨2, _⟩ => exact Pipeline.Window.rect_emb_val_of_index_zero win0_0 (pointOf t) 2 rfl _
  | ⟨3, _⟩ => exact Pipeline.Window.rect_emb_val_of_index_zero win0_0 (pointOf t) 3 rfl _

/-- The transposed matrix's block is the whole of it. -/
theorem block1_apply (c : Dev nD) (t : Fin 12) (I : Fin 672) (w : Fin 224) :
    (iblk m c 1 (pointOf t) : FVec Ideal S672x224 .bf16) (ix2 I w) = wt w.val I.val := by
  rw [← V_v0_apply m c I w]
  refine congrArg (V m c main_v0) (funext fun a => Fin.ext ?_)
  match a with
  | ⟨0, _⟩ => exact Pipeline.Window.rect_emb_val_of_index_zero win0_1 (pointOf t) 0 rfl _
  | ⟨1, _⟩ => exact Pipeline.Window.rect_emb_val_of_index_zero win0_1 (pointOf t) 1 rfl _

/-- The matrix's block is the whole of it. -/
theorem block2_apply (c : Dev nD) (t : Fin 12) (w : Fin 224) (J : Fin 672) :
    (iblk m c 2 (pointOf t) : FVec Ideal S224x672 .bf16) (ix2 w J) = wt w.val J.val := by
  rw [← V_cst_apply m c w J]
  refine congrArg (V m c main_cst) (funext fun a => Fin.ext ?_)
  match a with
  | ⟨0, _⟩ => exact Pipeline.Window.rect_emb_val_of_index_zero win0_2 (pointOf t) 0 rfl _
  | ⟨1, _⟩ => exact Pipeline.Window.rect_emb_val_of_index_zero win0_2 (pointOf t) 1 rfl _

/-! ## The planes -/

section Planes
variable (x0 : FVec Ideal S1x8x224x224 .f32) (x1 : FVec Ideal S672x224 .bf16) (x2 : FVec Ideal S224x672 .bf16)

/-- The first product: every row of the eight planes against the matrix. -/
theorem rows_apply (k : Fin 8) (w : Fin 224) (J : Fin 672) :
    (k0_pay1 (F := Ideal) x0 x2 (ix2 ⟨224 * k.val + w.val, by omega⟩ J) : EReal)
      = ∑ v : Fin 224, (x0 (ix4 0 k w v) : EReal) * (x2 (ix2 v J) : EReal) := by
  unfold k0_pay1
  pointwise

/-- The second product: the transposed matrix against the 224 rows of one plane, from row `off` of the first. -/
def planeOf (off : ℕ) (h : S1792x672.Slices ![off, 0] S224x672) : FVec Ideal S1x1x672x672 .f32 :=
  shapeCast S1x1x672x672 (matmul dot_S672x224_S224x672_S672x672_1_0_0_1_n_n none (shapeCast S672x224 x1 shapeCasts_S672x224_S672x224)
    (extractStridedSlice S224x672 ![off, 0] (k0_pay1 x0 x2) h) (constant (F := Ideal) S672x672 .f32 0x00000000#32)) shapeCasts_S672x672_S1x1x672x672

/-- A plane of the second product at an element: a product of the plane between the two matrices. -/
theorem planeOf_apply (k : Fin 8) (off : ℕ) (hoff : off = 224 * k.val) (h : S1792x672.Slices ![off, 0] S224x672) (I J : Fin 672) :
    (planeOf x0 x1 x2 off h (ix4 0 0 I J) : EReal)
      = ∑ w : Fin 224, (x1 (ix2 I w) : EReal) * ∑ v : Fin 224, (x0 (ix4 0 k w v) : EReal) * (x2 (ix2 v J) : EReal) := by
  subst hoff
  unfold planeOf
  pointwise
  exact Finset.sum_congr rfl fun w _ => congrArg _ (rows_apply x0 x2 k w J)

/-- Each plane the kernel stacks is a plane of the second product. -/
theorem planes_apply (k : Fin 8) (I J : Fin 672) :
    (planes (F := Ideal) x0 x1 x2 k (ix4 0 0 I J) : EReal)
      = ∑ w : Fin 224, (x1 (ix2 I w) : EReal) * ∑ v : Fin 224, (x0 (ix4 0 k w v) : EReal) * (x2 (ix2 v J) : EReal) := by
  match k with
  | ⟨0, _⟩ => exact planeOf_apply x0 x1 x2 0 _ rfl slices_S1792x672_o0_0_S224x672 I J
  | ⟨1, _⟩ => exact planeOf_apply x0 x1 x2 1 _ rfl slices_S1792x672_o224_0_S224x672 I J
  | ⟨2, _⟩ => exact planeOf_apply x0 x1 x2 2 _ rfl slices_S1792x672_o448_0_S224x672 I J
  | ⟨3, _⟩ => exact planeOf_apply x0 x1 x2 3 _ rfl slices_S1792x672_o672_0_S224x672 I J
  | ⟨4, _⟩ => exact planeOf_apply x0 x1 x2 4 _ rfl slices_S1792x672_o896_0_S224x672 I J
  | ⟨5, _⟩ => exact planeOf_apply x0 x1 x2 5 _ rfl slices_S1792x672_o1120_0_S224x672 I J
  | ⟨6, _⟩ => exact planeOf_apply x0 x1 x2 6 _ rfl slices_S1792x672_o1344_0_S224x672 I J
  | ⟨7, _⟩ => exact planeOf_apply x0 x1 x2 7 _ rfl slices_S1792x672_o1568_0_S224x672 I J

end Planes

/-! ## The result -/

/-- An element of the result: the average, over the two rows of its row's stencil, of the averages over the two columns of
    its column's. -/
theorem resultVal_apply (c : Dev nD) (X : FVec Ideal S1x96x224x224 .f32) (hX : m ((c : Thread nD τ).loc main_arg0) = X)
    (ch : Fin 96) (I J : Fin 672) :
    ((resultVal m c : FVec Ideal S1x96x672x672 .f32) (ix4 0 ch I J) : EReal)
      = half * ((X (ix4 0 ch ⟨lo I, Cert.Stencil.lo_lt I.isLt⟩ ⟨lo J, Cert.Stencil.lo_lt J.isLt⟩) : EReal) * half
          + (X (ix4 0 ch ⟨lo I, Cert.Stencil.lo_lt I.isLt⟩ ⟨hi J, Cert.Stencil.hi_lt J.isLt⟩) : EReal) * half)
        + half * ((X (ix4 0 ch ⟨hi I, Cert.Stencil.hi_lt I.isLt⟩ ⟨lo J, Cert.Stencil.lo_lt J.isLt⟩) : EReal) * half
          + (X (ix4 0 ch ⟨hi I, Cert.Stencil.hi_lt I.isLt⟩ ⟨hi J, Cert.Stencil.hi_lt J.isLt⟩) : EReal) * half) := by
  subst hX
  have hch := ch.isLt
  refine (planes_apply (iblk m c 0 (pointOf ⟨ch.val / 8, by omega⟩)) (iblk m c 1 (pointOf ⟨ch.val / 8, by omega⟩))
    (iblk m c 2 (pointOf ⟨ch.val / 8, by omega⟩)) ⟨ch.val % 8, by omega⟩ I J).trans ?_
  have e : (⟨8 * (ch.val / 8) + ch.val % 8, by omega⟩ : Fin 96) = ch := Fin.ext (by show 8 * (ch.val / 8) + ch.val % 8 = ch.val; omega)
  simp only [block0_apply, block1_apply, block2_apply, e]
  simp only [Cert.Stencil.sum_mul_wt _ J.val J.isLt]
  rw [Cert.Stencil.sum_wt_mul _ I.val I.isLt]

end Cert.KernelValue

end

end
-- ==== Proof.RefCoord.lean ====
/-
  The reference's sample points: where each of the nine samples around an input element lies, the row and the column of its
  upper left neighbour, and the four interpolation weights.
-/
module

public import proofs.«01_k».proof.Proof.Gen.ReferenceIdeal.Read
public import proofs.«01_k».proof.Proof.Stencil
public import Idealize.ShloMosaic.Lib.Pointwise
public import Idealize.ShloMosaic.Lib.IdealHost

@[expose] public section

set_option maxRecDepth 16384

noncomputable section

namespace Cert.RefValue

open Cert.ReferenceIdeal Cert.ReferenceIdeal.Read
open Idealize.ShloMosaic Idealize.ShloMosaic.TcCoe Idealize.ShloMosaic.Tactic
open Cert.Stencil (near far)

/-- Twice the coordinate of a sample point: the row's in slots 0 to 8, the column's in slots 9 to 17. -/
def twice (i j : ℕ) (k : ℕ) : ℕ := if k < 9 then 2 * i + 1 + k / 3 else 2 * j + 1 + (k - 9) % 3

/-- The three offsets of a sample, in halves: -1, 0, 1. -/
theorem v3_toInt (a : Fin 3) : ((val_main_v3 (F := Ideal) : IVec S3 32) (ix1 a)).toInt = (a.val : ℤ) - 1 := by
  unfold val_main_v3 val_main_v2 val_main_v1 val_main_c_0
  pointwise
  fin_cases a <;> rfl

/-- The offset of each slot: the row's offset of sample `k` is `k / 3`'s, the column's is `k % 3`'s. -/
theorem v9_toInt (k : Fin 18) : ((val_main_v9 (F := Ideal) : IVec S1x18x1x1 32) (ix4 0 k 0 0)).toInt
    = if k.val < 9 then ((k.val / 3 : ℕ) : ℤ) - 1 else (((k.val - 9) % 3 : ℕ) : ℤ) - 1 := by
  unfold val_main_v9 val_main_v8 val_main_v7 val_main_v6 val_main_v5 val_main_v4
  pointwise
  split_ifs <;> exact v3_toInt _

/-- A small number's word, read as a signed integer, is the number. -/
theorem toInt_ofNat_small {n : ℕ} (h : n < 2147483648) : (BitVec.ofNat 32 n).toInt = (n : ℤ) := by
  rw [BitVec.toInt_eq_toNat_of_lt (by rw [BitVec.toNat_ofNat]; omega), BitVec.toNat_ofNat, Nat.mod_eq_of_lt (by omega)]

/-- The element a slot's sample lies around: its row in slots 0 to 8, its column in slots 9 to 17. -/
theorem v23_toInt (i j : Fin 224) (k : Fin 18) : ((val_main_v23 (F := Ideal) : IVec S1x18x224x224 32) (ix4 0 k i j)).toInt
    = if k.val < 9 then (i.val : ℤ) else (j.val : ℤ) := by
  unfold val_main_v23 val_main_v22 val_main_v21 val_main_v20 val_main_v19 val_main_v18 val_main_v17 val_main_v16 val_main_v15 val_main_v14 val_main_v13 val_main_v12 val_main_v11
  pointwise
  have := i.isLt
  have := j.isLt
  split_ifs
  · exact toInt_ofNat_small (by omega)
  · exact toInt_ofNat_small (by omega)

/-- The single-precision word `0x3F000000` is one half. -/
theorem ofBits_half_f32 : Ideal.ofBits .f32 0x3F000000#32 = (((1 : ℝ) / 2 : ℝ) : EReal) := by
  simp [Ideal.ofBits, Ideal.ieee, -EReal.coe_mul]; norm_num

/-- A sample's coordinate: half of `twice`. -/
theorem v31_apply (i j : Fin 224) (k : Fin 18) : ((val_main_v31 (F := Ideal) : FVec Ideal S1x224x224x18 .f32) (ix4 0 i j k) : EReal)
    = (((twice i.val j.val k.val : ℝ) / 2 : ℝ) : EReal) := by
  unfold val_main_v31 val_main_v30 val_main_v29 val_main_v28 val_main_v27 val_main_cst_1 val_main_v26 val_main_v25 val_main_cst val_main_v24 val_main_v10
  pointwise
  have e1 : (FloatOps.sitofp (F := Ideal) FTy.f32 ((val_main_v23 (F := Ideal) : IVec S1x18x224x224 32) (ix4 0 k i j)) : EReal)
      = ((if k.val < 9 then (i.val : ℝ) else (j.val : ℝ) : ℝ) : EReal) := by
    show ((((val_main_v23 (F := Ideal) : IVec S1x18x224x224 32) (ix4 0 k i j)).toInt : ℝ) : EReal) = _
    rw [v23_toInt]; split_ifs <;> simp
  have e2 : (FloatOps.sitofp (F := Ideal) FTy.f32 ((val_main_v9 (F := Ideal) : IVec S1x18x1x1 32) (ix4 0 k 0 0)) : EReal)
      = ((if k.val < 9 then ((k.val / 3 : ℕ) : ℝ) - 1 else (((k.val - 9) % 3 : ℕ) : ℝ) - 1 : ℝ) : EReal) := by
    show ((((val_main_v9 (F := Ideal) : IVec S1x18x1x1 32) (ix4 0 k 0 0)).toInt : ℝ) : EReal) = _
    rw [v9_toInt]; split_ifs <;> push_cast <;> rfl
  have e3 : (1 : EReal) = ((1 : ℝ) : EReal) := by norm_cast
  erw [e1, e2, ofBits_half_f32, e3]
  rw [← EReal.coe_add, ← EReal.coe_mul, ← EReal.coe_add]
  congr 1
  unfold twice
  split_ifs <;> push_cast <;> ring

/-- Half of a natural number, rounded down. -/
theorem floor_half (t : ℕ) : ⌊((t : ℝ) / 2)⌋ = ((t / 2 : ℕ) : ℤ) := by
  have ht : (t : ℝ) = 2 * ((t / 2 : ℕ) : ℝ) + ((t % 2 : ℕ) : ℝ) := by exact_mod_cast (Nat.div_add_mod t 2).symm
  have h1 : ((t % 2 : ℕ) : ℝ) ≤ 1 := by exact_mod_cast Nat.lt_succ_iff.mp (Nat.mod_lt t (by norm_num))
  have h0 : (0 : ℝ) ≤ ((t % 2 : ℕ) : ℝ) := Nat.cast_nonneg _
  rw [Int.floor_eq_iff]
  constructor
  · rw [ht, Int.cast_natCast]; linarith
  · rw [ht, Int.cast_natCast]; linarith

/-- The nearer neighbour of a sample on each axis, as a word: the coordinate rounded down. -/
theorem v33_apply (i j : Fin 224) (k : Fin 18) : (val_main_v33 (F := Ideal) : IVec S1x224x224x18 32) (ix4 0 i j k)
    = BitVec.ofNat 32 (twice i.val j.val k.val / 2) := by
  have ht : twice i.val j.val k.val < 500 := by
    have := i.isLt; have := j.isLt; have := k.isLt
    unfold twice; split_ifs <;> omega
  have e : (val_main_v33 (F := Ideal) : IVec S1x224x224x18 32) (ix4 0 i j k)
      = Ideal.fptosi 32 (Ideal.liftRound Int.floor ((val_main_v31 (F := Ideal) : FVec Ideal S1x224x224x18 .f32) (ix4 0 i j k) : EReal)) := rfl
  rw [e, v31_apply, Ideal.liftRound_coe, floor_half]
  unfold Ideal.fptosi
  have hc : (((((twice i.val j.val k.val / 2 : ℕ) : ℤ) : ℝ)) : EReal) = ((((twice i.val j.val k.val / 2 : ℕ) : ℝ)) : EReal) := by norm_cast
  rw [hc, Ideal.toIntClamped_coe, if_pos (by positivity), Int.floor_natCast]
  have : max (-((2 ^ (32 - 1) : ℕ) : ℤ)) (min (((2 ^ (32 - 1) : ℕ) : ℤ) - 1) ((twice i.val j.val k.val / 2 : ℕ) : ℤ))
      = ((twice i.val j.val k.val / 2 : ℕ) : ℤ) := by norm_num; omega
  rw [this]
  exact BitVec.ofInt_natCast _ _

/-- The farther neighbour: one more. -/
theorem v35_apply (i j : Fin 224) (k : Fin 18) : (val_main_v35 (F := Ideal) : IVec S1x224x224x18 32) (ix4 0 i j k)
    = BitVec.ofNat 32 (twice i.val j.val k.val / 2 + 1) := by
  have e : (val_main_v35 (F := Ideal) : IVec S1x224x224x18 32) (ix4 0 i j k)
      = IntOp.addi ((val_main_v33 (F := Ideal) : IVec S1x224x224x18 32) (ix4 0 i j k)) 1#32 := by
    unfold val_main_v35 val_main_v34 val_main_c_2
    pointwise
  rw [e, v33_apply]
  exact (BitVec.ofNat_add _ _).symm

/-- Twice a coordinate is below 450. -/
theorem twice_lt (i j : Fin 224) (k : Fin 18) : twice i.val j.val k.val < 450 := by
  have := i.isLt; have := j.isLt; have := k.isLt
  unfold twice; split_ifs <;> omega

/-- The nearer neighbour's weight on an axis. -/
theorem near_eq (t : ℕ) (h : t < 450) :
    (1 : EReal) + (FloatOps.sitofp (F := Ideal) FTy.f32 (BitVec.ofNat 32 (t / 2)) - (((t : ℝ) / 2 : ℝ) : EReal) : EReal)
      = ((near (decide (t % 2 = 1)) : ℝ) : EReal) := by
  have e : (FloatOps.sitofp (F := Ideal) FTy.f32 (BitVec.ofNat 32 (t / 2)) : EReal) = (((t / 2 : ℕ) : ℝ) : EReal) := by
    show (((BitVec.ofNat 32 (t / 2)).toInt : ℝ) : EReal) = _
    rw [toInt_ofNat_small (by omega)]; norm_cast
  rw [e, ← EReal.coe_sub, ← EReal.coe_one, ← EReal.coe_add]
  congr 1
  unfold Cert.Stencil.near
  have ht : (t : ℝ) = 2 * ((t / 2 : ℕ) : ℝ) + ((t % 2 : ℕ) : ℝ) := by exact_mod_cast (Nat.div_add_mod t 2).symm
  rcases Nat.mod_two_eq_zero_or_one t with h0 | h0 <;> rw [ht, h0] <;> (simp; try ring)

/-- The farther neighbour's weight on an axis. -/
theorem far_eq (t : ℕ) (h : t < 450) :
    (1 : EReal) - (FloatOps.sitofp (F := Ideal) FTy.f32 (BitVec.ofNat 32 (t / 2 + 1)) - (((t : ℝ) / 2 : ℝ) : EReal) : EReal)
      = ((far (decide (t % 2 = 1)) : ℝ) : EReal) := by
  have e : (FloatOps.sitofp (F := Ideal) FTy.f32 (BitVec.ofNat 32 (t / 2 + 1)) : EReal) = (((t / 2 + 1 : ℕ) : ℝ) : EReal) := by
    show (((BitVec.ofNat 32 (t / 2 + 1)).toInt : ℝ) : EReal) = _
    rw [toInt_ofNat_small (by omega)]; norm_cast
  rw [e, ← EReal.coe_sub, ← EReal.coe_one, ← EReal.coe_sub]
  congr 1
  unfold Cert.Stencil.far
  have ht : (t : ℝ) = 2 * ((t / 2 : ℕ) : ℝ) + ((t % 2 : ℕ) : ℝ) := by exact_mod_cast (Nat.div_add_mod t 2).symm
  rcases Nat.mod_two_eq_zero_or_one t with h0 | h0 <;> rw [ht, h0] <;> (simp; try ring)

/-- The slot of a sample's row. -/
abbrev rowSlot (n : Fin 9) : Fin 18 := ⟨n.val, by omega⟩
/-- The slot of a sample's column. -/
abbrev colSlot (n : Fin 9) : Fin 18 := ⟨9 + n.val, by omega⟩

/-- The weight of the upper left neighbour. -/
theorem v54_apply (i j : Fin 224) (n : Fin 9) : ((val_main_v54 (F := Ideal) : FVec Ideal S1x224x224x9 .f32) (ix4 0 i j n) : EReal)
    = ((near (decide (twice i j (rowSlot n) % 2 = 1)) : ℝ) : EReal) * ((near (decide (twice i j (colSlot n) % 2 = 1)) : ℝ) : EReal) := by
  unfold val_main_v54 val_main_v53 val_main_v52 val_main_cst_4 val_main_v51 val_main_v50 val_main_v49 val_main_v48 val_main_v47 val_main_v46 val_main_cst_3 val_main_v45 val_main_v44 val_main_v43 val_main_v42
  pointwise
  simp only [v31_apply, v33_apply, v35_apply]
  exact congrArg₂ (· * ·) (near_eq _ (twice_lt i j (rowSlot n))) (near_eq _ (twice_lt i j (colSlot n)))

/-- The weight of the lower right neighbour. -/
theorem v67_apply (i j : Fin 224) (n : Fin 9) : ((val_main_v67 (F := Ideal) : FVec Ideal S1x224x224x9 .f32) (ix4 0 i j n) : EReal)
    = ((far (decide (twice i j (rowSlot n) % 2 = 1)) : ℝ) : EReal) * ((far (decide (twice i j (colSlot n) % 2 = 1)) : ℝ) : EReal) := by
  unfold val_main_v67 val_main_v66 val_main_v65 val_main_cst_6 val_main_v64 val_main_v63 val_main_v62 val_main_v61 val_main_v60 val_main_v59 val_main_cst_5 val_main_v58 val_main_v57 val_main_v56 val_main_v55
  pointwise
  simp only [v31_apply, v33_apply, v35_apply]
  exact congrArg₂ (· * ·) (far_eq _ (twice_lt i j (rowSlot n))) (far_eq _ (twice_lt i j (colSlot n)))

/-- The weight of the upper right neighbour. -/
theorem v80_apply (i j : Fin 224) (n : Fin 9) : ((val_main_v80 (F := Ideal) : FVec Ideal S1x224x224x9 .f32) (ix4 0 i j n) : EReal)
    = ((near (decide (twice i j (rowSlot n) % 2 = 1)) : ℝ) : EReal) * ((far (decide (twice i j (colSlot n) % 2 = 1)) : ℝ) : EReal) := by
  unfold val_main_v80 val_main_v79 val_main_v78 val_main_cst_8 val_main_v77 val_main_v76 val_main_v75 val_main_v74 val_main_v73 val_main_v72 val_main_cst_7 val_main_v71 val_main_v70 val_main_v69 val_main_v68 val_main_v38 val_main_v37 val_main_v36
  pointwise
  simp only [v31_apply, v33_apply, v35_apply]
  exact congrArg₂ (· * ·) (near_eq _ (twice_lt i j (rowSlot n))) (far_eq _ (twice_lt i j (colSlot n)))

/-- The weight of the lower left neighbour. -/
theorem v93_apply (i j : Fin 224) (n : Fin 9) : ((val_main_v93 (F := Ideal) : FVec Ideal S1x224x224x9 .f32) (ix4 0 i j n) : EReal)
    = ((far (decide (twice i j (rowSlot n) % 2 = 1)) : ℝ) : EReal) * ((near (decide (twice i j (colSlot n) % 2 = 1)) : ℝ) : EReal) := by
  unfold val_main_v93 val_main_v92 val_main_v91 val_main_cst_10 val_main_v90 val_main_v89 val_main_v88 val_main_v87 val_main_v86 val_main_v85 val_main_cst_9 val_main_v84 val_main_v83 val_main_v82 val_main_v81 val_main_v41 val_main_v40 val_main_v39
  pointwise
  simp only [v31_apply, v33_apply, v35_apply]
  exact congrArg₂ (· * ·) (far_eq _ (twice_lt i j (rowSlot n))) (near_eq _ (twice_lt i j (colSlot n)))

end Cert.RefValue

end

end
-- ==== Proof.RefTake.lean ====
/-
  The reference's `jnp.take` along the pixel axis, read at an index.

  All four calls of the reference are one term over the flattened padded image and the flat index array: negative indices
  wrapped, the gather clamped, out-of-range elements replaced by a fill value. Every index the reference forms lies in the
  image, so each of those steps is the identity and the result is the image at the index.
-/
module

public import proofs.«01_k».proof.Proof.Gen.ReferenceIdeal
public import Idealize.ShloMosaic.Lib.Pointwise

@[expose] public section

set_option maxRecDepth 16384

noncomputable section

namespace Cert.RefValue

open Cert.ReferenceIdeal Cert.ReferenceIdeal.Gen Idealize.ShloMosaic

/-- A conjunction of flags that all hold, from a flag that holds, holds. -/
theorem foldl_andi_one {ι : Type} (l : List ι) (f : ι → BitVec 1) (h : ∀ n, f n = 1#1) :
    l.foldl (fun r n => IntOp.andi r (f n)) 1#1 = 1#1 := by
  induction l with
  | nil => rfl
  | cons a l ih => rw [List.foldl_cons, h a]; exact ih

/-- Dimension numbers of a gather that takes whole columns: operand `[C, N]`, one start index per result column. -/
abbrev colDims (C N B : Nat) (wf : GatherDims.WF ⟨2, ![C, N]⟩ ⟨2, ![B, 1]⟩ ⟨2, ![C, B]⟩ [0] [1] [] [1] [] 1 ![C, 1]) :
    GatherDims ⟨2, ![C, N]⟩ ⟨2, ![B, 1]⟩ ⟨2, ![C, B]⟩ where
  offsetDims := [0]
  collapsedSliceDims := [1]
  operandBatchingDims := []
  startIndicesBatchingDims := []
  startIndexMap := [1]
  indexVectorDim := 1
  sliceSizes := ![C, 1]
  wf := wf

/-- Such a gather at `(r, b)` is the operand at row `r` and the start index of `b`, read signed and clamped. -/
theorem gather_col_apply {α : Type} {C N B w : Nat} (hN : 0 < N)
    (wf : GatherDims.WF ⟨2, ![C, N]⟩ ⟨2, ![B, 1]⟩ ⟨2, ![C, B]⟩ [0] [1] [] [1] [] 1 ![C, 1])
    (x : (⟨2, ![C, N]⟩ : Shape).Idx → α) (idx : IVec ⟨2, ![B, 1]⟩ w) (r : Fin C) (b : Fin B) :
    Host.gather (colDims C N B wf) x idx (ix2 r b)
      = x (ix2 r ⟨min (idx (ix2 b 0)).toInt.toNat (N - 1), by omega⟩) := by
  unfold Host.gather
  congr 1
  funext a
  refine Fin.ext ?_
  show (colDims C N B wf).start (ix2 r b) idx a + (colDims C N B wf).batchCoord (ix2 r b) a
      + (colDims C N B wf).offCoord (ix2 r b) a = _
  rw [GatherDims.batchCoord_eq_zero _ _ _ List.not_mem_nil]
  match a with
  | ⟨0, _⟩ =>
    have h0 : (colDims C N B wf).start (ix2 r b) idx (0 : Fin 2) = 0 := by
      unfold GatherDims.start; rw [dif_neg (show ¬ (0 : Fin 2) ∈ ([1] : List (Fin 2)) by decide)]
    show (colDims C N B wf).start (ix2 r b) idx (0 : Fin 2) + 0 + (colDims C N B wf).offCoord (ix2 r b) (0 : Fin 2) = r.val
    rw [h0]
    simp only [Nat.zero_add]
    unfold GatherDims.offCoord
    rw [dif_pos ((GatherDims.mem_sKept _ _).mpr ⟨(show ¬ (0 : Fin 2) ∈ ([1] : List (Fin 2)) by decide), List.not_mem_nil⟩)]
    rfl
  | ⟨1, _⟩ =>
    show (colDims C N B wf).start (ix2 r b) idx (1 : Fin 2) + 0 + (colDims C N B wf).offCoord (ix2 r b) (1 : Fin 2) = _
    rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims C N B wf).startIndexMap from List.mem_singleton.mpr rfl)]
    have hsi : (colDims C N B wf).siIdx (ix2 r b) ⟨List.idxOf (1 : Fin 2) (colDims C N B wf).startIndexMap,
        List.idxOf_lt_length_iff.2 (List.mem_singleton.mpr rfl)⟩ = ix2 b 0 := by
      funext d; refine Fin.ext ?_
      match d with
      | ⟨0, _⟩ => rfl
      | ⟨1, _⟩ => rfl
    rw [hsi]
    rfl

/-- A start index wrapped if negative, as a column. -/
def wrapCol (idx : IVec S451584 32) : IVec S451584x1 32 :=
  broadcastInDim S451584x1 ![0] bcast_S451584_S451584x1_0
    (select (cmpi .slt idx (broadcastInDim S451584 ![] bcast_S_S451584 (constantI S_ 32 0#32)))
      (addi idx (broadcastInDim S451584 ![] bcast_S_S451584 (constantI S_ 32 51076#32))) idx)

/-- The flag of the result elements whose start index is in range. -/
def inRange (idx : IVec S451584 32) : IVec S451584 1 :=
  Host.reduce IntOp.andi
    (andi (cmpi .sge (wrapCol idx) (broadcastInDim S451584x1 ![] bcast_S_S451584x1 (constantI S_ 32 0#32)))
      (cmpi .sle (wrapCol idx) (broadcastInDim S451584x1 ![0, 1] bcast_S1x1_S451584x1_0_1
        (broadcastInDim S1x1 ![1] bcast_S1_S1x1_1 (constantI S1 32 51075#32)))))
    (constantI S_ 1 1#1) reducesTo_S451584x1_S451584_d1 h_S_

/-- The reference's take of the flat image `xf` at the flat indices `idx`, as it is composed. -/
def takeOf (xf : FVec Ideal S96x51076 .f32) (idx : IVec S451584 32) : FVec Ideal S96x451584 .f32 :=
  select (broadcastInDim S96x451584 ![1] bcast_S451584_S96x451584_1 (inRange idx))
    (Host.gather gather_S96x51076_S451584x1_S96x451584_0_1_n_n_1_1_961 xf (wrapCol idx))
    (broadcastInDim S96x451584 ![] bcast_S_S96x451584 (constant S_ .f32 0x7FC00000#32))

/-- A nonnegative word compares as its natural value. -/
theorem toInt_of_small {b : BitVec 32} (h : b.toNat < 51076) : b.toInt = b.toNat := by
  rw [BitVec.toInt_eq_toNat_cond]; split_ifs <;> omega

/-- A start index in the image is not wrapped. -/
theorem wrapCol_apply (idx : IVec S451584 32) (n : Fin 451584) (h : (idx (ix1 n)).toNat < 51076) :
    wrapCol idx (ix2 n 0) = idx (ix1 n) := by
  unfold wrapCol
  pointwise
  have e : IntOp.cmpi .slt (idx (ix1 n)) 0#32 = 0#1 := by
    unfold IntOp.cmpi
    have := toInt_of_small h
    have h0 : ¬ ((((idx (ix1 n)).toNat : ℕ) : ℤ) < 0) := by omega
    simp [BitVec.slt, this, h0]
  rw [e]; rfl

/-- When every start index is in the image, every flag holds. -/
theorem inRange_apply (idx : IVec S451584 32) (h : ∀ n, (idx (ix1 n)).toNat < 51076) (j : S451584.Idx) :
    inRange idx j = 1#1 := by
  unfold inRange Host.reduce
  refine foldl_andi_one _ _ fun n => ?_
  generalize S451584x1.rowMajor.symm n = i
  idx_vars i
  obtain rfl : i1 = 0 := Subsingleton.elim _ _
  pointwise
  rw [wrapCol_apply idx i0 (h i0)]
  have := toInt_of_small (h i0)
  have hb := h i0
  unfold IntOp.cmpi IntOp.andi
  have h1 : decide ((idx (ix1 i0)).toNat ≤ 51075) = true := decide_eq_true (by omega)
  simp [BitVec.sle, this, h1]

/-- THE TAKE AT AN INDEX: with every start index in the image, the image there. -/
theorem takeOf_apply (xf : FVec Ideal S96x51076 .f32) (idx : IVec S451584 32)
    (h : ∀ n, (idx (ix1 n)).toNat < 51076) (c : Fin 96) (n : Fin 451584) :
    takeOf xf idx (ix2 c n) = xf (ix2 c ⟨(idx (ix1 n)).toNat, h n⟩) := by
  unfold takeOf
  have e1 : broadcastInDim S96x451584 ![1] bcast_S451584_S96x451584_1 (inRange idx) (ix2 c n) = 1#1 := by
    rw [broadcastInDim_apply (k := ix1 n) (hk := fun a => by match a with | ⟨0, _⟩ => rfl)]
    exact inRange_apply idx h _
  show Scalar.select (broadcastInDim S96x451584 ![1] bcast_S451584_S96x451584_1 (inRange idx) (ix2 c n)) _ _ = _
  rw [e1]
  show Host.gather (colDims 96 51076 451584 gather_S96x51076_S451584x1_S96x451584_0_1_n_n_1_1_961_wf) xf (wrapCol idx) (ix2 c n) = _
  refine (gather_col_apply (by decide) _ xf (wrapCol idx) c n).trans (congrArg xf (congrArg (ix2 c) (Fin.ext ?_)))
  show min (wrapCol idx (ix2 n 0)).toInt.toNat (51076 - 1) = (idx (ix1 n)).toNat
  rw [wrapCol_apply idx n (h n), toInt_of_small (h n)]
  have := h n
  omega

end Cert.RefValue

end
-- ==== Proof.RefValue.lean ====
/-
  The reference's result at every index, over the extended reals: the padded image, the four takes of a sample, and their
  weighted sum, which is the average the stencil names.
-/
module

public import proofs.«01_k».proof.Proof.RefCoord
public import proofs.«01_k».proof.Proof.RefTake

@[expose] public section

set_option maxRecDepth 16384

noncomputable section

namespace Cert.RefValue

open Cert.ReferenceIdeal Cert.ReferenceIdeal.Read
open Facts₀ Facts
open Idealize.ShloMosaic Idealize.ShloMosaic.TcCoe Idealize.ShloMosaic.Tactic
open Cert.Stencil (near far half lo hi)

/-- The input row a row of the padded image repeats: the border rows mirror the second row from the edge. -/
def refl (q : ℕ) : ℕ := if q = 0 then 1 else if q = 225 then 222 else q - 1

/-- It is a row of the input. -/
theorem refl_lt {q : ℕ} (h : q < 226) : refl q < 224 := by unfold refl; split_ifs <;> omega

/-- The first border row mirrors row 1. -/
theorem refl_first {q : ℕ} (h : q < 1) : 1 = refl q := by unfold refl; rw [if_pos (by omega)]
/-- Between the borders the rows are the input's, moved by one. -/
theorem refl_inner {q : ℕ} (h0 : ¬ q < 1) (h : q < 225) : q - 1 = refl q := by
  unfold refl; rw [if_neg (by omega), if_neg (by omega)]
/-- The last border row mirrors row 222. -/
theorem refl_last {q : ℕ} (h : ¬ q < 225) (hq : q < 226) : 222 = refl q := by
  unfold refl; rw [if_neg (by omega), if_pos (by omega)]

variable (x0 : FVec Ideal S1x96x224x224 .f32)

/-! ## The padded image -/

/-- Padding the rows. -/
theorem rows_padded (c : Fin 96) (q : Fin 226) (w : Fin 224) :
    (val_main_call0_v7 (F := Ideal) x0 : FVec Ideal S1x96x226x224 .f32) (ix4 0 c q w) = x0 (ix4 0 c ⟨refl q.val, refl_lt q.isLt⟩ w) := by
  unfold val_main_call0_v7 val_main_call0_v6 val_main_call0_v5 val_main_call0_v3 val_main_call0_v2 val_main_call0_v1
  pointwise
  have hq := q.isLt
  have h1 : ¬ (1 ∈ [2]) := by decide
  have h3 : ¬ (3 ∈ [2]) := by decide
  split_ifs
  all_goals first
    | exact absurd ‹_› h1
    | exact absurd ‹_› h3
    | exact congrArg (fun k => x0 (ix4 0 c k w)) (Fin.ext (by first | exact refl_inner ‹_› ‹_› | exact refl_first ‹_› | exact refl_last ‹_› hq))

/-- Padding the columns. -/
theorem padded (c : Fin 96) (q r : Fin 226) :
    (val_main_v0 (F := Ideal) x0 : FVec Ideal S1x96x226x226 .f32) (ix4 0 c q r)
      = x0 (ix4 0 c ⟨refl q.val, refl_lt q.isLt⟩ ⟨refl r.val, refl_lt r.isLt⟩) := by
  unfold val_main_v0 val_main_call0_v14 val_main_call0_v13 val_main_call0_v11 val_main_call0_v10 val_main_call0_v9
  pointwise
  simp only [rows_padded]
  have hr := r.isLt
  have h1 : ¬ (1 ∈ [3]) := by decide
  have h2 : ¬ (2 ∈ [3]) := by decide
  split_ifs
  all_goals first
    | exact absurd ‹_› h1
    | exact absurd ‹_› h2
    | exact congrArg (fun k => x0 (ix4 0 c _ k)) (Fin.ext (by first | exact refl_inner ‹_› ‹_› | exact refl_first ‹_› | exact refl_last ‹_› hr))
    | exact (rows_padded x0 c q _).trans (congrArg (fun k => x0 (ix4 0 c _ k)) (Fin.ext (by first | exact refl_inner ‹_› ‹_› | exact refl_first ‹_› | exact refl_last ‹_› hr)))

/-- The padded image laid out flat, channel by channel. -/
theorem flat_apply (c : Fin 96) (q r : Fin 226) :
    (val_main_v95 (F := Ideal) x0 : FVec Ideal S96x51076 .f32) (ix2 c ⟨q.val * 226 + r.val, by omega⟩)
      = x0 (ix4 0 c ⟨refl q.val, refl_lt q.isLt⟩ ⟨refl r.val, refl_lt r.isLt⟩) := by
  unfold val_main_v95 val_main_v94
  have hq := q.isLt
  have hr := r.isLt
  rw [← padded x0 c q r]
  pointwise

/-! ## The takes -/

/-- The number of a sample among all samples. -/
abbrev flatOf (i j : Fin 224) (n : Fin 9) : Fin 451584 := ⟨(i.val * 224 + j.val) * 9 + n.val, by omega⟩

/-- A take over a list of flat indices, read at a sample: where every sample's index word is a row and a column of the padded
    image, the padded image there. -/
theorem take_apply (idx : IVec S1x224x224x9 32) (q r : Fin 224 → Fin 224 → Fin 9 → Fin 226)
    (h : ∀ i j n, idx (ix4 0 i j n) = BitVec.ofNat 32 ((q i j n).val * 226 + (r i j n).val))
    (c : Fin 96) (i j : Fin 224) (n : Fin 9) :
    (shapeCast S1x96x224x224x9 (takeOf (val_main_v95 (F := Ideal) x0) (shapeCast S451584 idx shapeCasts_S1x224x224x9_S451584))
        shapeCasts_S96x451584_S1x96x224x224x9 : FVec Ideal S1x96x224x224x9 .f32) (ix5 0 c i j n)
      = x0 (ix4 0 c ⟨refl (q i j n).val, refl_lt (q i j n).isLt⟩ ⟨refl (r i j n).val, refl_lt (r i j n).isLt⟩) := by
  have hflat : ∀ i j n, (shapeCast S451584 idx shapeCasts_S1x224x224x9_S451584) (ix1 (flatOf i j n)) = idx (ix4 0 i j n) := by
    intro i j n
    have hi := i.isLt; have hj := j.isLt; have hn := n.isLt
    pointwise
    rw [show (⟨((i.val * 224 + j.val) * 9 + n.val) / 2016, by omega⟩ : Fin 224) = i from Fin.ext (by show ((i.val * 224 + j.val) * 9 + n.val) / 2016 = i.val; omega),
      show (⟨((i.val * 224 + j.val) * 9 + n.val) / 9 % 224, by omega⟩ : Fin 224) = j from Fin.ext (by show ((i.val * 224 + j.val) * 9 + n.val) / 9 % 224 = j.val; omega),
      show (⟨((i.val * 224 + j.val) * 9 + n.val) % 9, by omega⟩ : Fin 9) = n from Fin.ext (by show ((i.val * 224 + j.val) * 9 + n.val) % 9 = n.val; omega)]
  have hnat : ∀ i j n, ((shapeCast S451584 idx shapeCasts_S1x224x224x9_S451584) (ix1 (flatOf i j n))).toNat
      = (q i j n).val * 226 + (r i j n).val := by
    intro i j n
    have := (q i j n).isLt; have := (r i j n).isLt
    rw [hflat, h, BitVec.toNat_ofNat, Nat.mod_eq_of_lt (by omega)]
  have hlt : ∀ N, ((shapeCast S451584 idx shapeCasts_S1x224x224x9_S451584) (ix1 N)).toNat < 51076 := by
    intro N
    have hN := N.isLt
    have e : N = flatOf ⟨N.val / 9 / 224, by omega⟩ ⟨N.val / 9 % 224, by omega⟩ ⟨N.val % 9, by omega⟩ :=
      Fin.ext (by show N.val = (N.val / 9 / 224 * 224 + N.val / 9 % 224) * 9 + N.val % 9; omega)
    rw [e, hnat]
    have := (q ⟨N.val / 9 / 224, by omega⟩ ⟨N.val / 9 % 224, by omega⟩ ⟨N.val % 9, by omega⟩).isLt
    have := (r ⟨N.val / 9 / 224, by omega⟩ ⟨N.val / 9 % 224, by omega⟩ ⟨N.val % 9, by omega⟩).isLt
    omega
  have hcast : (shapeCast S1x96x224x224x9 (takeOf (val_main_v95 (F := Ideal) x0) (shapeCast S451584 idx shapeCasts_S1x224x224x9_S451584))
        shapeCasts_S96x451584_S1x96x224x224x9 : FVec Ideal S1x96x224x224x9 .f32) (ix5 0 c i j n)
      = takeOf (val_main_v95 (F := Ideal) x0) (shapeCast S451584 idx shapeCasts_S1x224x224x9_S451584) (ix2 c (flatOf i j n)) := by
    generalize takeOf (val_main_v95 (F := Ideal) x0) (shapeCast S451584 idx shapeCasts_S1x224x224x9_S451584) = T
    pointwise
    exact congrArg (fun k => T (ix2 c k)) (Fin.ext (by
      show i.val * 2016 + j.val * 9 + n.val = (i.val * 224 + j.val) * 9 + n.val
      omega))
  rw [hcast, takeOf_apply _ _ hlt, ← flat_apply x0 c (q i j n) (r i j n)]
  exact congrArg (fun k => val_main_v95 (F := Ideal) x0 (ix2 c k)) (Fin.ext (hnat i j n))

/-! ## The four neighbours -/

/-- The padded row of a sample's nearer neighbour. -/
def rowOf (i j : Fin 224) (n : Fin 9) : Fin 226 := ⟨twice i j (rowSlot n) / 2, by have := twice_lt i j (rowSlot n); omega⟩
/-- The padded column of a sample's nearer neighbour. -/
def colOf (i j : Fin 224) (n : Fin 9) : Fin 226 := ⟨twice i j (colSlot n) / 2, by have := twice_lt i j (colSlot n); omega⟩
/-- The padded row of a sample's farther neighbour. -/
def rowOf' (i j : Fin 224) (n : Fin 9) : Fin 226 := ⟨twice i j (rowSlot n) / 2 + 1, by have := twice_lt i j (rowSlot n); omega⟩
/-- The padded column of a sample's farther neighbour. -/
def colOf' (i j : Fin 224) (n : Fin 9) : Fin 226 := ⟨twice i j (colSlot n) / 2 + 1, by have := twice_lt i j (colSlot n); omega⟩

/-- A row's word times 226 plus a column's word is the flat index's word. -/
theorem flat_word (q r : ℕ) :
    IntOp.addi (IntOp.muli (BitVec.ofNat 32 q) 226#32) (BitVec.ofNat 32 r) = BitVec.ofNat 32 (q * 226 + r) := by
  rw [BitVec.ofNat_add, BitVec.ofNat_mul]; rfl

/-- The upper left neighbour's flat index. -/
theorem v100_apply (i j : Fin 224) (n : Fin 9) : (val_main_v100 (F := Ideal) : IVec S1x224x224x9 32) (ix4 0 i j n)
    = BitVec.ofNat 32 ((rowOf i j n).val * 226 + (colOf i j n).val) := by
  unfold val_main_v100 val_main_v99 val_main_v98 val_main_v97 val_main_c_11 val_main_v96
  pointwise
  rw [v33_apply, v33_apply]
  exact flat_word _ _

/-- The lower right neighbour's flat index. -/
theorem v108_apply (i j : Fin 224) (n : Fin 9) : (val_main_v108 (F := Ideal) : IVec S1x224x224x9 32) (ix4 0 i j n)
    = BitVec.ofNat 32 ((rowOf' i j n).val * 226 + (colOf' i j n).val) := by
  unfold val_main_v108 val_main_v107 val_main_v106 val_main_v105 val_main_c_12 val_main_v104
  pointwise
  rw [v35_apply, v35_apply]
  exact flat_word _ _

/-- The upper right neighbour's flat index. -/
theorem v116_apply (i j : Fin 224) (n : Fin 9) : (val_main_v116 (F := Ideal) : IVec S1x224x224x9 32) (ix4 0 i j n)
    = BitVec.ofNat 32 ((rowOf i j n).val * 226 + (colOf' i j n).val) := by
  unfold val_main_v116 val_main_v115 val_main_v114 val_main_v113 val_main_c_13 val_main_v112 val_main_v38 val_main_v37 val_main_v36
  pointwise
  rw [v33_apply, v35_apply]
  exact flat_word _ _

/-- The lower left neighbour's flat index. -/
theorem v124_apply (i j : Fin 224) (n : Fin 9) : (val_main_v124 (F := Ideal) : IVec S1x224x224x9 32) (ix4 0 i j n)
    = BitVec.ofNat 32 ((rowOf' i j n).val * 226 + (colOf i j n).val) := by
  unfold val_main_v124 val_main_v123 val_main_v122 val_main_v121 val_main_c_14 val_main_v120 val_main_v41 val_main_v40 val_main_v39
  pointwise
  rw [v33_apply, v35_apply]
  exact flat_word _ _

/-- The padded image at a padded row and column. -/
def at' (c : Fin 96) (q r : Fin 226) : EReal := x0 (ix4 0 c ⟨refl q.val, refl_lt q.isLt⟩ ⟨refl r.val, refl_lt r.isLt⟩)

/-- The upper left take. -/
theorem v103_apply (c : Fin 96) (i j : Fin 224) (n : Fin 9) :
    (val_main_v103 (F := Ideal) x0 : FVec Ideal S1x96x224x224x9 .f32) (ix5 0 c i j n) = at' x0 c (rowOf i j n) (colOf i j n) :=
  take_apply x0 (val_main_v100 (F := Ideal)) rowOf colOf v100_apply c i j n
/-- The lower right take. -/
theorem v111_apply (c : Fin 96) (i j : Fin 224) (n : Fin 9) :
    (val_main_v111 (F := Ideal) x0 : FVec Ideal S1x96x224x224x9 .f32) (ix5 0 c i j n) = at' x0 c (rowOf' i j n) (colOf' i j n) :=
  take_apply x0 (val_main_v108 (F := Ideal)) rowOf' colOf' v108_apply c i j n
/-- The upper right take. -/
theorem v119_apply (c : Fin 96) (i j : Fin 224) (n : Fin 9) :
    (val_main_v119 (F := Ideal) x0 : FVec Ideal S1x96x224x224x9 .f32) (ix5 0 c i j n) = at' x0 c (rowOf i j n) (colOf' i j n) :=
  take_apply x0 (val_main_v116 (F := Ideal)) rowOf colOf' v116_apply c i j n
/-- The lower left take. -/
theorem v127_apply (c : Fin 96) (i j : Fin 224) (n : Fin 9) :
    (val_main_v127 (F := Ideal) x0 : FVec Ideal S1x96x224x224x9 .f32) (ix5 0 c i j n) = at' x0 c (rowOf' i j n) (colOf i j n) :=
  take_apply x0 (val_main_v124 (F := Ideal)) rowOf' colOf v124_apply c i j n

/-- The weighted sum of a sample's four neighbours. -/
theorem v142_apply (c : Fin 96) (i j : Fin 224) (n : Fin 9) :
    ((val_main_v142 (F := Ideal) x0 : FVec Ideal S1x96x224x224x9 .f32) (ix5 0 c i j n) : EReal)
      = ((val_main_v54 (F := Ideal) : FVec Ideal S1x224x224x9 .f32) (ix4 0 i j n) : EReal) * at' x0 c (rowOf i j n) (colOf i j n)
        + ((val_main_v67 (F := Ideal) : FVec Ideal S1x224x224x9 .f32) (ix4 0 i j n) : EReal) * at' x0 c (rowOf' i j n) (colOf' i j n)
        + ((val_main_v80 (F := Ideal) : FVec Ideal S1x224x224x9 .f32) (ix4 0 i j n) : EReal) * at' x0 c (rowOf i j n) (colOf' i j n)
        + ((val_main_v93 (F := Ideal) : FVec Ideal S1x224x224x9 .f32) (ix4 0 i j n) : EReal) * at' x0 c (rowOf' i j n) (colOf i j n) := by
  rw [← v103_apply, ← v111_apply, ← v119_apply, ← v127_apply]
  unfold val_main_v142 val_main_v141 val_main_v140 val_main_v139 val_main_v138 val_main_v137 val_main_v136 val_main_v135 val_main_v134 val_main_v133 val_main_v132 val_main_v131 val_main_v130 val_main_v129 val_main_v128
  pointwise

/-! ## The result -/

/-- Output row (or column) `J`'s sample lies at this slot offset of input row `J / 3`: the nearer neighbour is the stencil's
    first row, the farther one its second where the coordinate falls between two rows. -/
theorem stencil_rows {J : ℕ} (hJ : J < 672) :
    refl ((2 * (J / 3) + 1 + J % 3) / 2) = lo J
      ∧ hi J = if (2 * (J / 3) + 1 + J % 3) % 2 = 1 then refl ((2 * (J / 3) + 1 + J % 3) / 2 + 1) else lo J := by
  obtain ⟨i, a, ha, rfl⟩ : ∃ i a, a < 3 ∧ J = 3 * i + a := ⟨J / 3, J % 3, Nat.mod_lt _ (by norm_num), (Nat.div_add_mod J 3).symm⟩
  rw [show (3 * i + a) / 3 = i by omega, show (3 * i + a) % 3 = a by omega]
  unfold refl lo hi
  rw [show (3 * i + a) / 3 = i by omega, show (3 * i + a) % 3 = a by omega]
  interval_cases a
  · rw [show (2 * i + 1 + 0) / 2 = i by omega, show (2 * i + 1 + 0) % 2 = 1 by omega]
    constructor <;> split_ifs <;> first | omega | contradiction
  · rw [show (2 * i + 1 + 1) / 2 = i + 1 by omega, show (2 * i + 1 + 1) % 2 = 0 by omega]
    constructor <;> split_ifs <;> first | omega | contradiction
  · rw [show (2 * i + 1 + 2) / 2 = i + 1 by omega, show (2 * i + 1 + 2) % 2 = 1 by omega]
    constructor <;> split_ifs <;> first | omega | contradiction

/-- The sample an output element is. -/
abbrev sampleOf (I J : Fin 672) : Fin 9 := ⟨3 * (I.val % 3) + J.val % 3, by omega⟩

/-- The result is the samples, three by three. -/
theorem v150_apply (c : Fin 96) (I J : Fin 672) :
    (val_main_v150 (F := Ideal) x0 : FVec Ideal S1x96x672x672 .f32) (ix4 0 c I J)
      = (val_main_v142 (F := Ideal) x0 : FVec Ideal S1x96x224x224x9 .f32) (ix5 0 c ⟨I.val / 3, by omega⟩ ⟨J.val / 3, by omega⟩ (sampleOf I J)) := by
  unfold val_main_v150 val_main_v149 val_main_v148 val_main_v147 val_main_v146 val_main_v145 val_main_v144 val_main_v143
  have hI := I.isLt
  have hJ := J.isLt
  pointwise
  have pick : ∀ (j j' : Fin 224) (n n' : Fin 9), j.val = j'.val → n.val = n'.val →
      (val_main_v142 (F := Ideal) x0 : FVec Ideal S1x96x224x224x9 .f32) (ix5 0 c ⟨I.val / 3, by omega⟩ j n)
        = (val_main_v142 (F := Ideal) x0 : FVec Ideal S1x96x224x224x9 .f32) (ix5 0 c ⟨I.val / 3, by omega⟩ j' n') := by
    intro j j' n n' h h'
    rw [Fin.ext h, Fin.ext h']
  by_cases h1 : I.val % 3 * 672 + J.val < 672
  · rw [dif_pos h1]
    refine pick _ _ _ _ ?_ ?_
    · show (I.val % 3 * 672 + J.val) / 3 = J.val / 3
      omega
    · show (I.val % 3 * 672 + J.val) % 3 = 3 * (I.val % 3) + J.val % 3
      omega
  rw [dif_neg h1]
  by_cases h2 : I.val % 3 * 672 + J.val - 672 < 672
  · rw [dif_pos h2]
    refine pick _ _ _ _ ?_ ?_
    · show (I.val % 3 * 672 + J.val - 672) / 3 = J.val / 3
      omega
    · show 3 + (I.val % 3 * 672 + J.val - 672) % 3 = 3 * (I.val % 3) + J.val % 3
      omega
  · rw [dif_neg h2]
    refine pick _ _ _ _ ?_ ?_
    · show (I.val % 3 * 672 + J.val - 672 - 672) / 3 = J.val / 3
      omega
    · show 6 + (I.val % 3 * 672 + J.val - 672 - 672) % 3 = 3 * (I.val % 3) + J.val % 3
      omega

/-- An element of the result: the average, over the two rows of its row's stencil, of the averages over the two columns of
    its column's. -/
theorem result_apply (c : Fin 96) (I J : Fin 672) :
    ((val_main_v150 (F := Ideal) x0 : FVec Ideal S1x96x672x672 .f32) (ix4 0 c I J) : EReal)
      = half * ((x0 (ix4 0 c ⟨lo I, Cert.Stencil.lo_lt I.isLt⟩ ⟨lo J, Cert.Stencil.lo_lt J.isLt⟩) : EReal) * half
          + (x0 (ix4 0 c ⟨lo I, Cert.Stencil.lo_lt I.isLt⟩ ⟨hi J, Cert.Stencil.hi_lt J.isLt⟩) : EReal) * half)
        + half * ((x0 (ix4 0 c ⟨hi I, Cert.Stencil.hi_lt I.isLt⟩ ⟨lo J, Cert.Stencil.lo_lt J.isLt⟩) : EReal) * half
          + (x0 (ix4 0 c ⟨hi I, Cert.Stencil.hi_lt I.isLt⟩ ⟨hi J, Cert.Stencil.hi_lt J.isLt⟩) : EReal) * half) := by
  have hI := I.isLt
  have hJ := J.isLt
  rw [v150_apply, v142_apply, v54_apply, v67_apply, v80_apply, v93_apply]
  simp only [← EReal.coe_mul]
  obtain ⟨hI1, hI2⟩ := stencil_rows hI
  obtain ⟨hJ1, hJ2⟩ := stencil_rows hJ
  have tI : twice (I.val / 3) (J.val / 3) (rowSlot (sampleOf I J)).val = 2 * (I.val / 3) + 1 + I.val % 3 := by
    show twice (I.val / 3) (J.val / 3) (3 * (I.val % 3) + J.val % 3) = _
    unfold twice; rw [if_pos (by omega)]; omega
  have tJ : twice (I.val / 3) (J.val / 3) (colSlot (sampleOf I J)).val = 2 * (J.val / 3) + 1 + J.val % 3 := by
    show twice (I.val / 3) (J.val / 3) (9 + (3 * (I.val % 3) + J.val % 3)) = _
    unfold twice; rw [if_neg (by omega)]; omega
  have pick : ∀ (a a' b b' : Fin 224), a.val = a'.val → b.val = b'.val → (x0 (ix4 0 c a b) : EReal) = x0 (ix4 0 c a' b') := by
    intro a a' b b' h h'
    rw [Fin.ext h, Fin.ext h']
  have r0 : refl (rowOf ⟨I.val / 3, by omega⟩ ⟨J.val / 3, by omega⟩ (sampleOf I J)).val = lo I := by
    rw [← hI1, ← tI]; rfl
  have c0 : refl (colOf ⟨I.val / 3, by omega⟩ ⟨J.val / 3, by omega⟩ (sampleOf I J)).val = lo J := by
    rw [← hJ1, ← tJ]; rfl
  have r1 : hi I = if (2 * (I.val / 3) + 1 + I.val % 3) % 2 = 1
      then refl (rowOf' ⟨I.val / 3, by omega⟩ ⟨J.val / 3, by omega⟩ (sampleOf I J)).val else lo I := by
    rw [hI2, ← tI]; rfl
  have c1 : hi J = if (2 * (J.val / 3) + 1 + J.val % 3) % 2 = 1
      then refl (colOf' ⟨I.val / 3, by omega⟩ ⟨J.val / 3, by omega⟩ (sampleOf I J)).val else lo J := by
    rw [hJ2, ← tJ]; rfl
  rw [tI, tJ]
  refine Cert.Stencil.interp₂ _ _ _ _ _ _ _ _ _ _ ?_ ?_ ?_ ?_
  · exact pick _ _ _ _ r0.symm c0.symm
  · by_cases h : (2 * (J.val / 3) + 1 + J.val % 3) % 2 = 1
    · rw [if_pos (decide_eq_true h)]; rw [if_pos h] at c1
      exact pick _ _ _ _ r0.symm c1
    · rw [if_neg (by simpa using h)]; rw [if_neg h] at c1
      exact pick _ _ _ _ r0.symm (c1.trans c0.symm)
  · by_cases h : (2 * (I.val / 3) + 1 + I.val % 3) % 2 = 1
    · rw [if_pos (decide_eq_true h)]; rw [if_pos h] at r1
      exact pick _ _ _ _ r1 c0.symm
    · rw [if_neg (by simpa using h)]; rw [if_neg h] at r1
      exact pick _ _ _ _ (r1.trans r0.symm) c0.symm
  · by_cases h : (2 * (I.val / 3) + 1 + I.val % 3) % 2 = 1 <;> by_cases h' : (2 * (J.val / 3) + 1 + J.val % 3) % 2 = 1
    · rw [if_pos (decide_eq_true h), if_pos (decide_eq_true h')]; rw [if_pos h] at r1; rw [if_pos h'] at c1
      exact pick _ _ _ _ r1 c1
    · rw [if_pos (decide_eq_true h), if_neg (by simpa using h')]; rw [if_pos h] at r1; rw [if_neg h'] at c1
      exact pick _ _ _ _ r1 (c1.trans c0.symm)
    · rw [if_neg (by simpa using h), if_pos (decide_eq_true h')]; rw [if_neg h] at r1; rw [if_pos h'] at c1
      exact pick _ _ _ _ (r1.trans r0.symm) c1
    · rw [if_neg (by simpa using h), if_neg (by simpa using h')]; rw [if_neg h] at r1; rw [if_neg h'] at c1
      exact pick _ _ _ _ (r1.trans r0.symm) (c1.trans c0.symm)

end Cert.RefValue

end

end
-- ==== Proof.lean ====
/-
  The claims: the kernel, the idealized kernel and the reference run and leave their argument unchanged, the idealization
  keeps the kernel's operations, and over the extended reals the kernel's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The reference terminates with its argument unchanged; it declares no semaphore, so every counter ends at zero. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- From the same argument the kernel's result and the reference's agree at every element: both are the average the stencil
    names. -/
theorem result_eq (m : (ℓ : Loc Cert.KernelIdeal.nD Cert.KernelIdeal.τ Cert.KernelIdeal.sig) → Buf (Elt Ideal) ℓ)
    (c : Dev Cert.KernelIdeal.nD) (x : FVec Ideal Cert.KernelIdeal.S1x96x224x224 .f32)
    (hx : m ((c.tc : Thread Cert.KernelIdeal.nD Cert.KernelIdeal.τ).loc Cert.KernelIdeal.main_arg0) = x) :
    (Cert.ReferenceIdeal.Read.val_main_v150 (F := Ideal) x : FVec Ideal Cert.KernelIdeal.S1x96x672x672 .f32)
      = (Cert.KernelValue.resultVal (F := Ideal) m c : FVec Ideal Cert.KernelIdeal.S1x96x672x672 .f32) := by
  funext i
  idx_vars i
  rw [Fin.fin_one_eq_zero i0]
  exact (Cert.RefValue.result_apply x i1 i2 i3).trans (Cert.KernelValue.resultVal_apply m c x hx i1 i2 i3).symm

/-- Over the extended reals the kernel and the reference end with equal results. -/
theorem algebraic : Cert.algebraic_KernelIdeal_ReferenceIdeal := fun m ρ m' ρ' _ hag =>
  ⟨fun c => Cert.KernelValue.resultVal (F := Ideal) m c, Cert.KernelValue.run_result m ρ,
    (θ_run Cert.ReferenceIdeal.defs _ _).mono
      (fun _ h c => ⟨((h c).1.trans (Cert.ReferenceIdeal.Read.val_main_v150_eq _)).trans (result_eq m c _ (hag c).symm), (h c).2⟩)
      (Cert.ReferenceIdeal.Value.run (F := Ideal) m' ρ')⟩

/-- The frames of the kernel, of the idealized kernel and of the reference, that the idealization keeps the kernel's
    operations, and that the idealized kernel computes the reference. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
